-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  bcast_S_S2048x16384 : S_.BroadcastsInDim S2048x16384 (![] : Fin 0 → Fin S2048x16384.rank)
  bcast_S_S1024 : S_.BroadcastsInDim S1024 (![] : Fin 0 → Fin S1024.rank)

variable [Facts]

def fn {F : FTy → Type} [FloatOps F] (main_arg0 : FVec F S1024x2048 .f32) (main_arg1 : FVec F S2048x16384 .f32) (main_arg2 : IVec S1024 32) : IVec S1024x2048 1 × IVec S2048x16384 1 × IVec S1024 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x16384 .f32 := Host.absf main_arg1
  let main_cst_0 : FVec F S_ .f32 := constant S_ .f32 0x7F800000#32
  let main_v4 : FVec F S2048x16384 .f32 := broadcastInDim S2048x16384 ![] bcast_S_S2048x16384 main_cst_0
  let main_v5 : IVec S2048x16384 1 := cmpf .olt main_v3 main_v4
  let main_c : IVec S_ 32 := constantI S_ 32 0#32
  let main_v6 : IVec S1024 32 := broadcastInDim S1024 ![] bcast_S_S1024 main_c
  let main_v7 : IVec S1024 1 := cmpi .sge main_arg2 main_v6
  let main_c_1 : IVec S_ 32 := constantI S_ 32 32768#32
  let main_v8 : IVec S1024 32 := broadcastInDim S1024 ![] bcast_S_S1024 main_c_1
  let main_v9 : IVec S1024 1 := cmpi .slt main_arg2 main_v8
  let main_v10 : IVec S1024 1 := andi main_v7 main_v9
  (main_v2, main_v5, main_v10)
-- ==== Pre_in_range_ReferenceIdeal.lean ====
abbrev S1024x2048 : Shape := ⟨2, ![1024, 2048]⟩
abbrev S2048x32768 : Shape := ⟨2, ![2048, 32768]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  bcast_S_S2048x32768 : S_.BroadcastsInDim S2048x32768 (![] : Fin 0 → Fin S2048x32768.rank)
  bcast_S_S1024 : S_.BroadcastsInDim S1024 (![] : Fin 0 → Fin S1024.rank)

variable [Facts]

def fn {F : FTy → Type} [FloatOps F] (main_arg0 : FVec F S1024x2048 .f32) (main_arg1 : FVec F S2048x32768 .f32) (main_arg2 : IVec S1024 32) : IVec S1024x2048 1 × IVec S2048x32768 1 × IVec S1024 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x32768 .f32 := Host.absf main_arg1
  let main_cst_0 : FVec F S_ .f32 := constant S_ .f32 0x7F800000#32
  let main_v4 : FVec F S2048x32768 .f32 := broadcastInDim S2048x32768 ![] bcast_S_S2048x32768 main_cst_0
  let main_v5 : IVec S2048x32768 1 := cmpf .olt main_v3 main_v4
  let main_c : IVec S_ 32 := constantI S_ 32 0#32
  let main_v6 : IVec S1024 32 := broadcastInDim S1024 ![] bcast_S_S1024 main_c
  let main_v7 : IVec S1024 1 := cmpi .sge main_arg2 main_v6
  let main_c_1 : IVec S_ 32 := constantI S_ 32 32768#32
  let main_v8 : IVec S1024 32 := broadcastInDim S1024 ![] bcast_S_S1024 main_c_1
  let main_v9 : IVec S1024 1 := cmpi .slt main_arg2 main_v8
  let main_v10 : IVec S1024 1 := andi main_v7 main_v9
  (main_v2, main_v5, main_v10)
-- ==== Kernel.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩
abbrev S128x2048 : Shape := ⟨2, ![128, 2048]⟩
abbrev S128 : Shape := ⟨1, ![128]⟩
abbrev S1x128 : Shape := ⟨2, ![1, 128]⟩
abbrev S8x128 : Shape := ⟨2, ![8, 128]⟩
abbrev S2048x1024 : Shape := ⟨2, ![2048, 1024]⟩
abbrev S2x8x128 : Shape := ⟨3, ![2, 8, 128]⟩
abbrev S4x2x8x128 : Shape := ⟨4, ![4, 2, 8, 128]⟩
abbrev S4 : Shape := ⟨1, ![4]⟩
abbrev S128x1024 : Shape := ⟨2, ![128, 1024]⟩
abbrev S128x1 : Shape := ⟨2, ![128, 1]⟩
abbrev S1x1x128 : Shape := ⟨3, ![1, 1, 128]⟩
abbrev S1 : Shape := ⟨1, ![1]⟩
abbrev S1x2x8x128 : Shape := ⟨4, ![1, 2, 8, 128]⟩
abbrev S1x8x128 : Shape := ⟨3, ![1, 8, 128]⟩

abbrev nBuf : Space → Nat
  | .hbm => 38
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S128x2048, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S128, .i32⟩
  | .hbm, ⟨35, _⟩ => ⟨S1x128, .i32⟩
  | .hbm, ⟨36, _⟩ => ⟨S8x128, .f32⟩
  | .hbm, ⟨37, _⟩ => ⟨S1024, .f32⟩
  | .local _ .vmem, ⟨0, _⟩ => ⟨S128x2048, .f32⟩
  | .local _ .vmem, ⟨1, _⟩ => ⟨S2048x1024, .f32⟩
  | .local _ .vmem, ⟨2, _⟩ => ⟨S2048x1024, .f32⟩
  | .local _ .vmem, ⟨3, _⟩ => ⟨S1x128, .i32⟩
  | .local _ .vmem, ⟨4, _⟩ => ⟨S8x128, .f32⟩
  | .local _ .vmem, ⟨5, _⟩ => ⟨S1x128, .f32⟩
  | .local _ .vmem, ⟨6, _⟩ => ⟨S1x128, .f32⟩
  | .local _ .vmem, ⟨7, _⟩ => ⟨S2x8x128, .f32⟩
  | .local _ .vmem, ⟨8, _⟩ => ⟨S4x2x8x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_c_5 : Ref sig .tc := ⟨.hbm, 20, rfl⟩
abbrev main_v12 : Ref sig .tc := ⟨.hbm, 21, rfl⟩
abbrev main_c_6 : Ref sig .tc := ⟨.hbm, 22, rfl⟩
abbrev main_v13 : Ref sig .tc := ⟨.hbm, 23, rfl⟩
abbrev main_v14 : Ref sig .tc := ⟨.hbm, 24, rfl⟩
abbrev main_c_7 : Ref sig .tc := ⟨.hbm, 25, rfl⟩
abbrev main_v15 : Ref sig .tc := ⟨.hbm, 26, rfl⟩
abbrev main_c_8 : Ref sig .tc := ⟨.hbm, 27, rfl⟩
abbrev main_v16 : Ref sig .tc := ⟨.hbm, 28, rfl⟩
abbrev main_c_9 : Ref sig .tc := ⟨.hbm, 29, rfl⟩
abbrev main_v17 : Ref sig .tc := ⟨.hbm, 30, rfl⟩
abbrev main_c_10 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 16
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v45 : BitVec 1 := Scalar.cmpi .eq arg0 c15_i32
  let v46 : BitVec 32 := Scalar.extui v45
  let c0_i32_19 : BitVec 32 := 0#32
  let v47 : BitVec 1 := Scalar.cmpi .ne v46 c0_i32_19
  v47

def k0_off1 (d0 : Dev nD) : Fin 3 → Nat :=
  let c0_27 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v48 : BitVec 32 := Scalar.muli v5 c4_i32_20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.addi v48 v8
  let v55 : Index := Scalar.indexCast v49
  let c0_28 : Index := 0#32
  ![0, v55.toNat, 0]
def k0_off2 (d0 : Dev nD) : Fin 3 → Nat :=
  let c1 : Index := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v48 : BitVec 32 := Scalar.muli v5 c4_i32_20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.addi v48 v8
  let v60 : Index := Scalar.indexCast v49
  let c0_31 : Index := 0#32
  ![1, v60.toNat, 0]
def k0_dev1 (d0 : Dev nD) : Nat :=
  let c0_i32_38 : BitVec 32 := 0#32
  let c1_i32_32 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v64 : BitVec 32 := Scalar.subi c1_i32_32 v2
  let c8_i32_37 : BitVec 32 := 8#32
  let v69 : BitVec 32 := Scalar.muli v64 c8_i32_37
  let v70 : BitVec 32 := Scalar.addi c0_i32_38 v69
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v71 : BitVec 32 := Scalar.muli v5 c4_i32_39
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v73 : BitVec 32 := Scalar.muli v8 c1_i32_40
  let v74 : BitVec 32 := Scalar.addi v72 v73
  v74.toNat
def k0_dev2 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v75 : BitVec 32 := Scalar.muli v2 c8_i32_42
  let v76 : BitVec 32 := Scalar.addi c0_i32_43 v75
  let c1_i32_33 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v65 : BitVec 32 := Scalar.subi c1_i32_33 v5
  let c4_i32_44 : BitVec 32 := 4#32
  let v77 : BitVec 32 := Scalar.muli v65 c4_i32_44
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v79 : BitVec 32 := Scalar.muli v8 c1_i32_45
  let v80 : BitVec 32 := Scalar.addi v78 v79
  v80.toNat
def k0_dev3 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v81 : BitVec 32 := Scalar.muli v2 c8_i32_47
  let v82 : BitVec 32 := Scalar.addi c0_i32_48 v81
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v83 : BitVec 32 := Scalar.muli v5 c4_i32_49
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v66 : BitVec 32 := Scalar.xori v8 c1_i32_34
  let c1_i32_50 : BitVec 32 := 1#32
  let v85 : BitVec 32 := Scalar.muli v66 c1_i32_50
  let v86 : BitVec 32 := Scalar.addi v84 v85
  v86.toNat
def k0_dev4 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v87 : BitVec 32 := Scalar.muli v2 c8_i32_52
  let v88 : BitVec 32 := Scalar.addi c0_i32_53 v87
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v89 : BitVec 32 := Scalar.muli v5 c4_i32_54
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v67 : BitVec 32 := Scalar.xori v8 c2_i32_35
  let c1_i32_55 : BitVec 32 := 1#32
  let v91 : BitVec 32 := Scalar.muli v67 c1_i32_55
  let v92 : BitVec 32 := Scalar.addi v90 v91
  v92.toNat
def k0_dev5 (d0 : Dev nD) : Nat :=
  let c0_i32_61 : BitVec 32 := 0#32
  let c1_i32_32 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v64 : BitVec 32 := Scalar.subi c1_i32_32 v2
  let c8_i32_60 : BitVec 32 := 8#32
  let v93 : BitVec 32 := Scalar.muli v64 c8_i32_60
  let v94 : BitVec 32 := Scalar.addi c0_i32_61 v93
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v95 : BitVec 32 := Scalar.muli v5 c4_i32_62
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v97 : BitVec 32 := Scalar.muli v8 c1_i32_63
  let v98 : BitVec 32 := Scalar.addi v96 v97
  v98.toNat
def k0_dev6 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v126 : BitVec 32 := Scalar.muli v2 c8_i32_97
  let v127 : BitVec 32 := Scalar.addi c0_i32_98 v126
  let c1_i32_33 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v65 : BitVec 32 := Scalar.subi c1_i32_33 v5
  let c4_i32_99 : BitVec 32 := 4#32
  let v128 : BitVec 32 := Scalar.muli v65 c4_i32_99
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v130 : BitVec 32 := Scalar.muli v8 c1_i32_100
  let v131 : BitVec 32 := Scalar.addi v129 v130
  v131.toNat
def k0_dev7 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v159 : BitVec 32 := Scalar.muli v2 c8_i32_134
  let v160 : BitVec 32 := Scalar.addi c0_i32_135 v159
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v161 : BitVec 32 := Scalar.muli v5 c4_i32_136
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v66 : BitVec 32 := Scalar.xori v8 c1_i32_34
  let c1_i32_137 : BitVec 32 := 1#32
  let v163 : BitVec 32 := Scalar.muli v66 c1_i32_137
  let v164 : BitVec 32 := Scalar.addi v162 v163
  v164.toNat
def k0_dev8 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v192 : BitVec 32 := Scalar.muli v2 c8_i32_169
  let v193 : BitVec 32 := Scalar.addi c0_i32_170 v192
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v194 : BitVec 32 := Scalar.muli v5 c4_i32_171
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v67 : BitVec 32 := Scalar.xori v8 c2_i32_35
  let c1_i32_172 : BitVec 32 := 1#32
  let v196 : BitVec 32 := Scalar.muli v67 c1_i32_172
  let v197 : BitVec 32 := Scalar.addi v195 v196
  v197.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x2048 : Shape := ⟨2, ![1024, 2048]⟩
abbrev S2048x32768 : Shape := ⟨2, ![2048, 32768]⟩
abbrev S1024 : Shape := ⟨1, ![1024]⟩
abbrev S1024x32768 : Shape := ⟨2, ![1024, 32768]⟩
abbrev S_ : Shape := ⟨0, ![]⟩
abbrev S1024x1 : Shape := ⟨2, ![1024, 1]⟩
abbrev S1024x2 : Shape := ⟨2, ![1024, 2]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024, .i32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.ProtoIdeal.lean ====
/-
The protocol the sixteen devices follow at the last grid point, stated as a schedule of rounds.

Every device first signals the barrier semaphore of its four partners, each signal handing over one slot of the
signaller's receive buffer; it then waits for its own four signals. In each of four steps it copies its accumulator into
its partner's slot, waits until the copy has been read and until the partner's copy has landed, and adds what landed.

What the accumulator holds before each step is a parameter `A` here: the module says who may touch what and when,
and nothing about the numbers.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Tactic
public import Idealize.ShloMosaic.Lib.Pipeline.RegionTalk
public import Idealize.ShloMosaic.Lib.Ring.FamCut
public import Idealize.ShloMosaic.Lib.Pipeline.Value

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The partners -/

/-- The partner of device `c` in step `r`: the device differing in the one bit of the number the step exchanges over. -/
def pr (r : Fin 4) (c : Dev nD) : Dev nD := ⟨((![8, 4, 1, 2] r) ^^^ c.val) % 16, Nat.mod_lt _ (by decide)⟩

theorem pr_pr : ∀ (r : Fin 4) (c : Dev nD), pr r (pr r c) = c := by decide +kernel

theorem dev1 : ∀ c : Dev nD, k0_dev1 c = (pr 0 c).val := by decide +kernel
theorem dev2 : ∀ c : Dev nD, k0_dev2 c = (pr 1 c).val := by decide +kernel
theorem dev3 : ∀ c : Dev nD, k0_dev3 c = (pr 2 c).val := by decide +kernel
theorem dev4 : ∀ c : Dev nD, k0_dev4 c = (pr 3 c).val := by decide +kernel
theorem dev5 : ∀ c : Dev nD, k0_dev5 c = (pr 0 c).val := by decide +kernel
theorem dev6 : ∀ c : Dev nD, k0_dev6 c = (pr 1 c).val := by decide +kernel
theorem dev7 : ∀ c : Dev nD, k0_dev7 c = (pr 2 c).val := by decide +kernel
theorem dev8 : ∀ c : Dev nD, k0_dev8 c = (pr 3 c).val := by decide +kernel

/-! ## Buffers and semaphores -/

abbrev sM : Memref sig .tc .vmem S1x128 .f32 := Memref.whole cc0_scratch0
abbrev lM : Memref sig .tc .vmem S1x128 .f32 := Memref.whole cc0_scratch1
abbrev accM : Memref sig .tc .vmem S2x8x128 .f32 := Memref.whole cc0_scratch2
abbrev recvM : Memref sig .tc .vmem S4x2x8x128 .f32 := Memref.whole cc0_scratch3

theorem slot_inb (r : Fin 4) : ∀ a, (![r.val, 0, 0, 0] : Fin 4 → Nat) a + S1x2x8x128.size a ≤ S4x2x8x128.size a := by
  revert r; decide
theorem sem_inb (r : Fin 4) : ∀ a, (![r.val] : Fin 1 → Nat) a + S1.size a ≤ S4.size a := by
  revert r; decide

/-- The rectangle of slot `r` in the receive buffer. -/
abbrev slotR (r : Fin 4) : Rect S4x2x8x128 := Rect.unit (s := S4x2x8x128) ![r.val, 0, 0, 0] S1x2x8x128.size (slot_inb r)
/-- Slot `r` of the receive buffer. -/
abbrev slotM (r : Fin 4) : Memref sig .tc .vmem S2x8x128 .f32 :=
  (recvM.slice (slotR r) (fun _ => rfl)).squeeze S2x8x128 squeezes_S1x2x8x128_S2x8x128

/-- The semaphores of step `r`. -/
abbrev sendS (r : Fin 4) : DmaSem sig := ((cc0_scratch4.slice (Rect.unit (s := S4) ![r.val] S1.size (sem_inb r))).squeeze S_ squeezes_S1_S_).sem
abbrev recvS (r : Fin 4) : DmaSem sig := ((cc0_scratch5.slice (Rect.unit (s := S4) ![r.val] S1.size (sem_inb r))).squeeze S_ squeezes_S1_S_).sem

theorem sendS_eq : ∀ r : Fin 4, sendS r = (⟨5 + r.val, by show _ < 13; omega⟩ : DmaSem sig) := by decide +kernel
theorem recvS_eq : ∀ r : Fin 4, recvS r = (⟨9 + r.val, by show _ < 13; omega⟩ : DmaSem sig) := by decide +kernel
theorem sendS_val (r : Fin 4) : (sendS r).val = 5 + r.val := by rw [sendS_eq]
theorem recvS_val (r : Fin 4) : (recvS r).val = 9 + r.val := by rw [recvS_eq]

/-- The units one copy of an accumulator counts. -/
abbrev N : ℕ := (accM : Memref sig .tc .vmem S2x8x128 .f32).view.dmaCredit
theorem N_pos : 0 < N := View.dmaCredit_pos _ (by decide)
theorem N_slot (r : Fin 4) : (slotM r).view.dmaCredit = N := rfl

/-! ## The resource algebra -/

abbrev UT : Type := URounds (GSem nD τ sig) (Fin 4)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

abbrev 𝒱₀ : Variants := Variants.none

abbrev barCell (c : Dev nD) : GSem nD τ sig := ((c : Thread nD τ), .reg barrier0)
abbrev sendCell (r : Fin 4) (c : Dev nD) : GSem nD τ sig := ((c : Thread nD τ), .dma (sendS r))
abbrev recvCell (r : Fin 4) (c : Dev nD) : GSem nD τ sig := ((c : Thread nD τ), .dma (recvS r))

/-- The kernel's own semaphores, which the region opens and closes. -/
abbrev osem : Fin 8 → SemLoc sig
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

/-! ## The points-tos -/

/-- Device `c`'s slot `r` at `f`. -/
abbrev slotPts (r : Fin 4) (c : Dev nD) (f : Buf (Elt F) ((slotM r).view.loc (c : Thread nD τ))) : sProp 𝕄 :=
  (slotM r).view.loc (c : Thread nD τ) ↦[(slotM r).view.set]{fullShare} f
/-- Device `c`'s accumulator at `a`. -/
abbrev accPts (c : Dev nD) (a : Vec F S2x8x128 .f32) : sProp 𝕄 :=
  (accM : Memref sig .tc .vmem S2x8x128 .f32).view.loc (c : Thread nD τ) ↦[(accM : Memref sig .tc .vmem S2x8x128 .f32).view.set]{fullShare} a

variable (A : Fin 4 → Dev nD → Vec F S2x8x128 .f32)

/-! ## The schedule -/

/-- Paid to the barrier cell of `c` by its partner of step `r`: the partner's slot `r`, whose cell is open. -/
def barPay (r : Fin 4) (c : Dev nD) : sProp 𝕄 := iprop((∃ f, slotPts r (pr r c) f) ∗ reached ER (recvCell r (pr r c)) 0)
/-- Paid to the receive cell of step `r` by the partner's copy: the slot, holding the partner's accumulator. -/
def recvPay (r : Fin 4) (c : Dev nD) : sProp 𝕄 :=
  iprop(∃ f, ⌜(slotM r).view.read (Elt F) f = A r (pr r c)⌝ ∗ slotPts r c f)
/-- Paid to the send cell of step `r` by the own copy: the accumulator back. -/
def sendPay (r : Fin 4) (c : Dev nD) : sProp 𝕄 := accPts c (A r c)

/-- The step a transfer semaphore belongs to. -/
def ixOf (s : DmaSem sig) : Fin 4 := ⟨(s.val + 3) % 4, Nat.mod_lt _ (by decide)⟩
theorem ixOf_send (r : Fin 4) : ixOf (sendS r) = r := by
  apply Fin.ext; show ((sendS r).val + 3) % 4 = r.val; rw [sendS_val]; omega
theorem ixOf_recv (r : Fin 4) : ixOf (recvS r) = r := by
  apply Fin.ext; show ((recvS r).val + 3) % 4 = r.val; rw [recvS_val]; omega

/-- One round: four duties at a barrier cell, one at each send and receive cell. -/
def talkRd : Rounds.Schedule (GSem nD τ sig) (Fin 4) 𝕄 where
  duties g n := if n = 0 ∧ g.1.2 = .tc then
      (match g.2 with
        | .reg _ => Finset.univ
        | .dma s => if 5 ≤ s.val then {0} else ∅) else ∅
  unitless _ := False
  amount g _ _ := match g.2 with | .reg _ => 1 | .dma _ => N
  payload g _ d := match g.2 with
    | .reg _ => barPay d g.1.1
    | .dma s => if 9 ≤ s.val then recvPay A (ixOf s) g.1.1 else sendPay A (ixOf s) g.1.1
  amount_pos g _ _ _ := by
    cases g.2
    · exact Nat.one_pos
    · exact N_pos

instance barPay_storable (r : Fin 4) (c : Dev nD) : BI.Storable (upEmb : UEmb _ 𝕄) (barPay (F := F) r c) := by
  unfold barPay; infer_instance
set_option synthInstance.maxHeartbeats 200000 in
instance recvPay_storable (r : Fin 4) (c : Dev nD) : BI.Storable (upEmb : UEmb _ 𝕄) (recvPay A r c) := by
  unfold recvPay; infer_instance
instance sendPay_storable (r : Fin 4) (c : Dev nD) : BI.Storable (upEmb : UEmb _ 𝕄) (sendPay A r c) := by
  unfold sendPay; infer_instance

instance talkRd_payload_storable (g : GSem nD τ sig) (n : ℕ) (d : Fin 4) :
    BI.Storable (upEmb : UEmb _ 𝕄) ((talkRd A).payload g n d) := by
  show BI.Storable upEmb (match g.2 with
    | .reg _ => barPay d g.1.1
    | .dma s => if 9 ≤ s.val then recvPay A (ixOf s) g.1.1 else sendPay A (ixOf s) g.1.1)
  (repeat' split) <;> infer_instance

section Sched

variable (r : Fin 4) (c : Dev nD)

theorem duties_bar : (talkRd A).duties (barCell c) 0 = Finset.univ := by dsimp only [talkRd]; exact if_pos ⟨rfl, rfl⟩
theorem duties_send : (talkRd A).duties (sendCell r c) 0 = {0} := by
  dsimp only [talkRd]; rw [if_pos ⟨rfl, rfl⟩, if_pos (by rw [sendS_val]; omega)]
theorem duties_recv : (talkRd A).duties (recvCell r c) 0 = {0} := by
  dsimp only [talkRd]; rw [if_pos ⟨rfl, rfl⟩, if_pos (by rw [recvS_val]; omega)]
theorem duties_later (g : GSem nD τ sig) : ∀ n, 1 ≤ n → (talkRd A).duties g n = ∅ :=
  fun n hn => by dsimp only [talkRd]; rw [if_neg (fun h => by omega)]

theorem expect_bar : (talkRd A).expect (barCell c) 0 = 4 := by
  unfold Schedule.expect Schedule.amountOf; rw [duties_bar]; rfl
theorem expect_send : (talkRd A).expect (sendCell r c) 0 = N := by
  unfold Schedule.expect Schedule.amountOf; rw [duties_send, Finset.sum_singleton]; rfl
theorem expect_recv : (talkRd A).expect (recvCell r c) 0 = N := by
  unfold Schedule.expect Schedule.amountOf; rw [duties_recv, Finset.sum_singleton]; rfl

theorem payload_bar (d : Fin 4) : (talkRd A).payload (barCell c) 0 d = barPay d c := rfl
theorem payload_send (d : Fin 4) : (talkRd A).payload (sendCell r c) 0 d = sendPay A r c := by
  dsimp only [talkRd]; rw [if_neg (by rw [sendS_val]; omega), ixOf_send]
theorem payload_recv (d : Fin 4) : (talkRd A).payload (recvCell r c) 0 d = recvPay A r c := by
  dsimp only [talkRd]; rw [if_pos (by rw [recvS_val]; omega), ixOf_recv]

/-- Four things conjoined one by one. -/
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

theorem rest_bar : bigSep ((talkRd A).duties (barCell c) 0 \ ∅) (fun d => (talkRd A).payload (barCell c) 0 d)
    = bigSep Finset.univ (fun d => barPay (F := F) d c) := by
  rw [Finset.sdiff_empty, duties_bar]; rfl
theorem rest_send : bigSep ((talkRd A).duties (sendCell r c) 0 \ ∅) (fun d => (talkRd A).payload (sendCell r c) 0 d) = sendPay A r c := by
  rw [Finset.sdiff_empty, duties_send, bigSep_singleton, payload_send]
theorem rest_recv : bigSep ((talkRd A).duties (recvCell r c) 0 \ ∅) (fun d => (talkRd A).payload (recvCell r c) 0 d) = recvPay A r c := by
  rw [Finset.sdiff_empty, duties_recv, bigSep_singleton, payload_recv]

end Sched

/-! ## Dues and levels -/

/-- What device `c` owes its partners' receive cells from step `k` on. -/
def dueFrom (c : Dev nD) : ℕ → CellTallies nD τ sig Unit
  | 0 => tallyAt (recvCell 3 (pr 3 c)) () N + tallyAt (recvCell 2 (pr 2 c)) () N + tallyAt (recvCell 1 (pr 1 c)) () N
      + tallyAt (recvCell 0 (pr 0 c)) () N
  | 1 => tallyAt (recvCell 3 (pr 3 c)) () N + tallyAt (recvCell 2 (pr 2 c)) () N + tallyAt (recvCell 1 (pr 1 c)) () N
  | 2 => tallyAt (recvCell 3 (pr 3 c)) () N + tallyAt (recvCell 2 (pr 2 c)) () N
  | 3 => tallyAt (recvCell 3 (pr 3 c)) () N
  | _ => 0

theorem dueFrom_step (c : Dev nD) (r : Fin 4) : dueFrom c r.val = dueFrom c (r.val + 1) + tallyAt (recvCell r (pr r c)) () N := by
  match r with
  | 0 => rfl
  | 1 => rfl
  | 2 => rfl
  | 3 => exact (zero_add _).symm

abbrev barDue (r : Fin 4) (c : Dev nD) : CellTallies nD τ sig Unit := tallyAt (barCell (pr r c)) () 1

/-- What device `c` owes at launch: a unit to each partner's barrier and a copy to each partner's receive cell. -/
def O₀ (c : Dev nD) : CellTallies nD τ sig Unit := dueFrom c 0 + barDue 3 c + barDue 2 c + barDue 1 c + barDue 0 c

def L (g : GSem nD τ sig) : Finset Unit := if g.1.2 = .tc then {()} else ∅
/-- Barrier cells at 1, the receive cell of step `r` at `2 + r`, the rest at 0. -/
def lv (g : GSem nD τ sig) (_ : Unit) : ℕ :=
  match g.2 with
  | .reg _ => 1
  | .dma s => if 9 ≤ s.val then 2 + (ixOf s).val else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (r : Fin 4) (c : Dev nD) : lv (recvCell r c) () = 2 + r.val := by
  dsimp only [lv]; rw [if_pos (by rw [recvS_val]; omega), ixOf_recv]
theorem lv_send (r : Fin 4) (c : Dev nD) : lv (sendCell r c) () = 0 := by
  dsimp only [lv]; rw [if_neg (by rw [sendS_val]; omega)]

theorem tallyAt_pos {g g' : GSem nD τ sig} {u u' : Unit} {n : ℕ} (h : 0 < tallyAt g u n g' u') : g' = g := by
  rw [tallyAt_apply] at h
  by_contra hn
  rw [if_neg (fun h' => hn h'.1)] at h
  exact absurd h (Nat.lt_irrefl 0)

theorem add_pos_or {O O' : CellTallies nD τ sig Unit} {g : GSem nD τ sig} {u : Unit} (h : 0 < (O + O') g u) : 0 < O g u ∨ 0 < O' g u :=
  Nat.add_pos_iff_pos_or_pos.mp h

theorem dueFrom_pos (c : Dev nD) (k : ℕ) (g : GSem nD τ sig) (u : Unit) (h : 0 < dueFrom c k g u) :
    ∃ r : Fin 4, k ≤ r.val ∧ g = recvCell r (pr r c) := by
  match k with
  | 0 =>
    rcases add_pos_or h with h | h
    · obtain ⟨r, -, hr⟩ := dueFrom_pos c 1 g u h; exact ⟨r, Nat.zero_le _, hr⟩
    · exact ⟨0, le_rfl, tallyAt_pos h⟩
  | 1 =>
    rcases add_pos_or h with h | h
    · obtain ⟨r, hk, hr⟩ := dueFrom_pos c 2 g u h; exact ⟨r, by omega, hr⟩
    · exact ⟨1, le_rfl, tallyAt_pos h⟩
  | 2 =>
    rcases add_pos_or h with h | h
    · obtain ⟨r, hk, hr⟩ := dueFrom_pos c 3 g u h; exact ⟨r, by omega, hr⟩
    · exact ⟨2, le_rfl, tallyAt_pos h⟩
  | 3 => exact ⟨3, le_rfl, tallyAt_pos h⟩
  | _ + 4 => exact absurd h (Nat.lt_irrefl 0)
termination_by 4 - k

/-- A cell below everything still owed may be waited for. -/
theorem mayWait_due (c : Dev nD) (sm : SemLoc sig) (k : ℕ) (h : lv ((c : Thread nD τ), sm) () < 2 + k) :
    (levAts L lv : sProp 𝕄) ⊢ MayWait (c : Thread nD τ) sm () (dueFrom c k) :=
  MayOwe.of_cut (L := L) (lev := lv) (lv ((c : Thread nD τ), sm) ())
    (fun p hp => by rw [Finset.mem_singleton.mp hp, L_tc]; exact Finset.mem_singleton_self _)
    (fun g u hg => by obtain ⟨r, -, rfl⟩ := dueFrom_pos c k g u hg; rw [L_tc]; exact Finset.mem_singleton_self _)
    (fun p hp => by rw [Finset.mem_singleton.mp hp])
    (fun g u hg => by obtain ⟨r, hr, rfl⟩ := dueFrom_pos c k g u hg; rw [lv_recv]; omega)

/-- Every cell something is owed to at launch is listed, above level 0. -/
theorem O₀_pos (c : Dev nD) (g : GSem nD τ sig) (u : Unit) (h : 0 < O₀ c g u) : u ∈ L g ∧ 0 < lv g u := by
  have hb : ∀ r : Fin 4, 0 < barDue r c g u → u ∈ L g ∧ 0 < lv g u := fun r hr => by
    rw [tallyAt_pos hr, L_tc]; exact ⟨Finset.mem_singleton_self _, Nat.one_pos⟩
  rcases add_pos_or h with h | h
  · rcases add_pos_or h with h | h
    · rcases add_pos_or h with h | h
      · rcases add_pos_or h with h | h
        · obtain ⟨r, -, rfl⟩ := dueFrom_pos c 0 g u h
          rw [L_tc, lv_recv]; exact ⟨Finset.mem_singleton_self _, by omega⟩
        · exact hb 3 h
      · exact hb 2 h
    · exact hb 1 h
  · exact hb 0 h

/-! ## The ghost state -/

/-- The invariants device `c` opens in step `r`, and its partner's. -/
def invsR (K : GSem nD τ sig → ℕ) (r : Fin 4) (c : Dev nD) : sProp 𝕄 :=
  iprop(cellInv ER (talkRd A) (K (sendCell r c)) (sendCell r c) ∗ cellInv ER (talkRd A) (K (recvCell r c)) (recvCell r c)
    ∗ cellInv ER (talkRd A) (K (barCell (pr r c))) (barCell (pr r c)) ∗ cellInv ER (talkRd A) (K (recvCell r (pr r c))) (recvCell r (pr r c)))

instance invsR_persistent (K : GSem nD τ sig → ℕ) (r : Fin 4) (c : Dev nD) : BI.Persistent (invsR A K r c) := by
  unfold invsR; infer_instance

/-- What device `c` carries from launch for step `r`: the names, the rights to open its two cells, that its partner's barrier
    cell is open, and the three tokens it pays with. -/
def ghostR (K : GSem nD τ sig → ℕ) (r : Fin 4) (c : Dev nD) : sProp 𝕄 :=
  iprop(invsR A K r c ∗ openTok ER (sendCell r c) ∗ openTok ER (recvCell r c) ∗ reached ER (barCell (pr r c)) 0
    ∗ dutyTok ER (barCell (pr r c)) 0 r ∗ dutyTok ER (recvCell r (pr r c)) 0 0 ∗ dutyTok ER (sendCell r c) 0 0
    ∗ cred (tallyAt (recvCell r c) () N))

/-- The same with the two cells open. -/
def openR (K : GSem nD τ sig → ℕ) (r : Fin 4) (c : Dev nD) : sProp 𝕄 :=
  iprop(invsR A K r c ∗ (atPos ER (sendCell r c) 0 ∅ 0 ∗ reached ER (sendCell r c) 0) ∗ (atPos ER (recvCell r c) 0 ∅ 0 ∗ reached ER (recvCell r c) 0)
    ∗ reached ER (barCell (pr r c)) 0
    ∗ dutyTok ER (barCell (pr r c)) 0 r ∗ dutyTok ER (recvCell r (pr r c)) 0 0 ∗ dutyTok ER (sendCell r c) 0 0
    ∗ cred (tallyAt (recvCell r c) () N))

/-- What device `c` carries for its own barrier cell. -/
def ghostB (K : GSem nD τ sig → ℕ) (c : Dev nD) : sProp 𝕄 :=
  iprop(cellInv ER (talkRd A) (K (barCell c)) (barCell c) ∗ atPos ER (barCell c) 0 ∅ 0 ∗ cred (tallyAt (barCell c) () 4))

def ghost (c : Dev nD) : sProp 𝕄 := iprop(∃ K, ghostB A K c ∗ bigSep Finset.univ fun r => ghostR A K r c)
def opened (c : Dev nD) : sProp 𝕄 := iprop(∃ K, ghostB A K c ∗ bigSep Finset.univ fun r => openR A K r c)

/-- A cell whose one round is over is closed, its counter back at zero. -/
theorem close (κ : ℕ) (g : GSem nD τ sig) :
    iprop(cellInv ER (talkRd A) κ g ∗ atPos ER g (0 + 1) ∅ 0) ⊢ (|={Set.univ}=> semVal g 0 : sProp 𝕄) :=
  Rounds.cell_close ER (talkRd A) (Set.mem_univ κ) id (duties_later A g)

end Cert.KernelIdeal.Talk

end
-- ==== Proof.StepsIdeal.lean ====
/-
The operations of one exchange step, one lemma per operation, each for any step `r`: signal the partner, start the copy,
wait until it has been read, wait until the partner's has landed, read the slot; and the loads and stores of whole
scratch buffers the body makes besides.
-/
module

public import proofs.«01_k».proof.Proof.ProtoIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Running a program of the TensorCore of device `c`. -/
abbrev wps {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (A : Fin 4 → Dev nD → Vec F S2x8x128 .f32)

/-- The state of step `r` once the partner has been signalled. -/
def midR (K : GSem nD τ sig → ℕ) (r : Fin 4) (c : Dev nD) : sProp 𝕄 :=
  iprop(invsR A K r c ∗ (atPos ER (sendCell r c) 0 ∅ 0 ∗ reached ER (sendCell r c) 0) ∗ atPos ER (recvCell r c) 0 ∅ 0
    ∗ dutyTok ER (recvCell r (pr r c)) 0 0 ∗ dutyTok ER (sendCell r c) 0 0 ∗ cred (tallyAt (recvCell r c) () N))

/-- The state of step `r` once its copy is on the way. -/
def sentR (K : GSem nD τ sig → ℕ) (r : Fin 4) (c : Dev nD) : sProp 𝕄 :=
  iprop(invsR A K r c ∗ atPos ER (sendCell r c) 0 ∅ 0 ∗ atPos ER (recvCell r c) 0 ∅ 0
    ∗ cred (tallyAt (sendCell r c) () N) ∗ cred (tallyAt (recvCell r c) () N))

/-- The state of step `r` once both its waits are over. -/
def doneR (K : GSem nD τ sig → ℕ) (r : Fin 4) (c : Dev nD) : sProp 𝕄 :=
  iprop(invsR A K r c ∗ atPos ER (sendCell r c) (0 + 1) ∅ 0 ∗ atPos ER (recvCell r c) (0 + 1) ∅ 0)

section Steps

variable (K : GSem nD τ sig → ℕ) (r : Fin 4) (c : Dev nD) {α : Type} {Q : α → sProp (MT nD τ sig Unit (Elt F) ℕ UU ℕ)}
  {k : PUnit → Prog (TpuEff nD τ sig (Elt F) Λ₀ .tc) α}

/-- SIGNAL the partner's barrier: hands it the own slot, and that the own receive cell is open. -/
theorem wp_sig (n : Dev nD) (hn : n = pr r c) (sem : Sem sig) (hsem : sem = barrier0) (z : ℤ) (hz : z = ((1 : ℕ) : ℤ))
    (O₁ O : CellTallies nD τ sig Unit) (hO : O₁ = O + barDue r c) (W : Waits sig Unit) :
    iprop(openR A K r c ∗ (∃ f, slotPts r c f) ∗ owes (c : Thread nD τ) O₁ W)
      ⊢ iprop(((midR A K r c ∗ owes (c : Thread nD τ) O W) -∗ wps c (k ⟨⟩) Q)
        -∗ wps c (.op (.semSignal (n, .tc) sem z) k) Q) := by
  subst hn hsem hz
  unfold openR midR invsR
  iintro ⟨⟨⟨#HIs, #HIr, #HIbP, #HIrP⟩, HS, ⟨HatV, #HrV⟩, #HrP, HtP, HtN, HtS, HcV⟩, ⟨%f0, Hs⟩, HO⟩ Hk
  iapply (Rounds.wp_signal 𝒱₀ ER (talkRd A) (c : Thread nD τ) none (dst := (pr r c : Thread nD τ)) (sem := barrier0) (r := 0) (d := r)
      (κ := K (barCell (pr r c))) (k' := 1)
      (by rw [duties_bar]; exact Finset.mem_univ _) rfl () O hO)
    $$ [HO HtP Hs]
  · isplitr; · iexact HIbP
    isplitl [HO]; · iexact HO
    isplitl [HtP]; · iexact HtP
    isplitl [Hs]
    · rw [payload_bar]; unfold barPay; rw [pr_pr]
      isplitl [Hs]; · iexists f0; iexact Hs
      iexact HrV
    · iexact HrP
  iintro HO
  iapply Hk
  isplitr [HO]
  · isplitr
    · isplitr; · iexact HIs
      isplitr; · iexact HIr
      isplitr; · iexact HIbP
      iexact HIrP
    isplitl [HS]; · iexact HS
    isplitl [HatV]; · iexact HatV
    isplitl [HtN]; · iexact HtN
    isplitl [HtS]; · iexact HtS
    iexact HcV
  iexact HO

/-- WAIT for the four signals: each brings its sender's slot, and that its sender's receive cell is open. -/
theorem wp_bar (sem : Sem sig) (hsem : sem = barrier0) (z : ℤ) (hz : z = ((4 : ℕ) : ℤ)) (W : Waits sig Unit) :
    iprop(ghostB A K c ∗ levAts L lv ∗ owes (c : Thread nD τ) (dueFrom c 0) W)
      ⊢ iprop(((cellInv ER (talkRd A) (K (barCell c)) (barCell c) ∗ atPos ER (barCell c) (0 + 1) ∅ 0
            ∗ owes (c : Thread nD τ) (dueFrom c 0) (insert (.reg barrier0, ()) W) ∗ bigSep Finset.univ fun d => barPay (F := F) d c) -∗ wps c (k ⟨⟩) Q)
        -∗ wps c (.op (.semWait sem z) k) Q) := by
  subst hsem hz
  unfold ghostB
  iintro ⟨⟨#HIb, HatB, HcB⟩, #Hlev, HO⟩ Hk
  iapply (Rounds.wp_wait_rest_token 𝒱₀ ER (talkRd A) (c : Thread nD τ) none (κ := K (barCell c))
      (wpE_semWait_eq 𝒱₀ (c : Thread nD τ) none Set.univ) (Set.mem_univ _) () (O := dueFrom c 0) (W := W) (R := 0) (m := 0) (T := ∅)
      ((Nat.zero_add 4).trans (expect_bar A c).symm)) $$ [HcB HO HatB]
  · isplitr; · iexact HIb
    isplitl [HcB]; · iexact HcB
    isplitl [HO]; · iexact HO
    isplitr; · iapply (mayWait_due c (.reg barrier0) 0 (Nat.lt_succ_self 1)); iexact Hlev
    iexact HatB
  iintro ⟨HO, HatB, -, Hpay⟩
  ihave Hp := (Entails.of_eq (rest_bar A c)) $$ Hpay
  iapply Hk
  isplitr; · iexact HIb
  isplitl [HatB]; · iexact HatB
  isplitl [HO]; · iexact HO
  iexact Hp

/-- START THE COPY of the accumulator into the partner's slot. -/
theorem wp_enq (n : Dev nD) (hn : n = pr r c) (slot : Memref sig .tc .vmem S2x8x128 .f32) (hslot : slot = slotM r)
    (sS : DmaSem sig) (hsS : sS = sendS r) (sR : DmaSem sig) (hsR : sR = recvS r)
    {hsc : slot.view.ref.isScScratch = false} {hsrc : (accM : Memref sig .tc .vmem S2x8x128 .f32).view.WordExact} {hdst : slot.view.WordExact}
    {hsem : DmaTarget.Typed .vmem (.dma sR) (.remote (Dev.tc n) slot (.dma sS) hsc)} (W : Waits sig Unit) :
    iprop(midR A K r c ∗ barPay (F := F) r c ∗ accPts c (A r c) ∗ owes (c : Thread nD τ) (dueFrom c r.val) W)
      ⊢ iprop(((sentR A K r c ∗ owes (c : Thread nD τ) (dueFrom c (r.val + 1)) W) -∗ wps c (k ⟨⟩) Q)
        -∗ wps c (.op (.enqueueDma accM (.remote (Dev.tc n) slot (.dma sS) hsc) (.dma sR) hsrc hdst hsem) k) Q) := by
  subst hn hslot hsS hsR
  unfold midR sentR invsR barPay
  iintro ⟨⟨⟨#HIs, #HIr, #HIbP, #HIrP⟩, ⟨HatS, #HrS⟩, HatV, HtN, HtS, HcV⟩, ⟨⟨%fn, HsN⟩, #HrN⟩, Hacc, HO⟩ Hk
  iapply (Rounds.wp_send_pointsTo 𝒱₀ ER (talkRd A) (c : Thread nD τ) none (c' := (pr r c : Thread nD τ)) (src := accM) (dst := slotM r)
      (sS := .dma (sendS r)) (sem := .dma (recvS r)) (q := fullShare) (fs := A r c) (κ₁ := K (sendCell r c)) (κ₂ := K (recvCell r (pr r c)))
      (r₁ := 0) (r₂ := 0) (d₁ := 0) (d₂ := 0) (fd := fn)
      (by rw [duties_send]; exact Finset.mem_singleton_self _) (by rw [duties_recv]; exact Finset.mem_singleton_self _)
      () () N rfl rfl rfl (dueFrom c (r.val + 1)) (dueFrom_step c r) (W := W)
      (by rw [payload_send]; exact BI.Entails.refl _)
      (by
        rw [payload_recv]; unfold recvPay; rw [pr_pr]
        iintro H; iexists _; isplitr
        swap; · iexact H
        ipureintro
        exact (View.read_write_univ _ _).trans (View.read_whole _ _))) $$ [Hacc HsN HO HtS HtN]
  · isplitr; · iexact HIs
    isplitr; · iexact HIrP
    isplitl [Hacc]; · iexact Hacc
    isplitl [HsN]; · iexact HsN
    isplitl [HO]; · iexact HO
    isplitl [HtS]; · iexact HtS
    isplitr; · iexact HrS
    isplitl [HtN]; · iexact HtN
    iexact HrN
  iintro ⟨HcS, HO⟩
  iapply Hk
  isplitr [HO]
  · isplitr
    · isplitr; · iexact HIs
      isplitr; · iexact HIr
      isplitr; · iexact HIbP
      iexact HIrP
    isplitl [HatS]; · iexact HatS
    isplitl [HatV]; · iexact HatV
    isplitl [HcS]; · iexact HcS
    iexact HcV
  iexact HO

/-- The wait for the partner's copy, as the wait for the units one copy counts. -/
theorem wait_recv_eq {h3 : (accM : Memref sig .tc .vmem S2x8x128 .f32).view.WordExact} {h4 : (slotM r).view.WordExact} (Kt : PUnit → sProp 𝕄) :
    wpE (defs₀ (F := F)) 𝒱₀ (c : Thread nD τ) none Set.univ (.waitDma2 (recvS r) accM (slotM r) h3 h4) Kt
      = waitSpec (c : Thread nD τ) Set.univ (.dma (recvS r)) N Kt := by
  rw [wpE_waitDma2_eq, N_slot]

/-- The two WAITS of a step: the accumulator comes back, and the own slot, holding the partner's accumulator. -/
theorem wp_waits (slot : Memref sig .tc .vmem S2x8x128 .f32) (hslot : slot = slotM r)
    (sS : DmaSem sig) (hsS : sS = sendS r) (sR : DmaSem sig) (hsR : sR = recvS r)
    {h1 : slot.view.WordExact} {h2 : (accM : Memref sig .tc .vmem S2x8x128 .f32).view.WordExact}
    {h3 : (accM : Memref sig .tc .vmem S2x8x128 .f32).view.WordExact} {h4 : slot.view.WordExact} (W : Waits sig Unit) :
    iprop(sentR A K r c ∗ levAts L lv ∗ owes (c : Thread nD τ) (dueFrom c (r.val + 1)) W)
      ⊢ iprop(((doneR A K r c ∗ accPts c (A r c) ∗ recvPay A r c
            ∗ owes (c : Thread nD τ) (dueFrom c (r.val + 1)) (insert (.dma (recvS r), ()) (insert (.dma (sendS r), ()) W))) -∗ wps c (k ⟨⟩) Q)
        -∗ wps c (.op (.waitDma2 sS slot accM h1 h2) fun _ => .op (.waitDma2 sR accM slot h3 h4) k) Q) := by
  subst hslot hsS hsR
  unfold sentR doneR invsR
  iintro ⟨⟨⟨#HIs, #HIr, #HIbP, #HIrP⟩, HatS, HatV, HcS, HcV⟩, #Hlev, HO⟩ Hk
  iapply (Rounds.wp_wait_rest_token 𝒱₀ ER (talkRd A) (c : Thread nD τ) none (κ := K (sendCell r c))
      (wpE_waitDma2_eq 𝒱₀ (c : Thread nD τ) none Set.univ) (Set.mem_univ _) () (O := dueFrom c (r.val + 1)) (W := W) (R := 0) (m := 0) (T := ∅)
      ((Nat.zero_add _).trans (expect_send A r c).symm)) $$ [HcS HO HatS]
  · isplitr; · iexact HIs
    isplitl [HcS]; · iexact HcS
    isplitl [HO]; · iexact HO
    isplitr; · iapply (mayWait_due c (.dma (sendS r)) (r.val + 1) (by rw [lv_send r c]; omega)); iexact Hlev
    iexact HatS
  iintro ⟨HO, HatS, -, Hpay⟩
  ihave Hacc := (Entails.of_eq (rest_send A r c)) $$ Hpay
  iapply (Rounds.wp_wait_rest_token 𝒱₀ ER (talkRd A) (c : Thread nD τ) none (κ := K (recvCell r c))
      (wait_recv_eq r c) (Set.mem_univ _) () (O := dueFrom c (r.val + 1))
      (W := insert (SemLoc.dma (sendS r), ()) W) (R := 0) (m := 0) (T := ∅)
      ((Nat.zero_add _).trans (expect_recv A r c).symm)) $$ [HcV HO HatV]
  · isplitr; · iexact HIr
    isplitl [HcV]; · iexact HcV
    isplitl [HO]; · iexact HO
    isplitr; · iapply (mayWait_due c (.dma (recvS r)) (r.val + 1) (by rw [lv_recv r c]; omega)); iexact Hlev
    iexact HatV
  iintro ⟨HO, HatV, -, Hpay⟩
  ihave Hs := (Entails.of_eq (rest_recv A r c)) $$ Hpay
  iapply Hk
  isplitl [HatS HatV]
  · isplitr
    · isplitr; · iexact HIs
      isplitr; · iexact HIr
      isplitr; · iexact HIbP
      iexact HIrP
    isplitl [HatS]; · iexact HatS
    iexact HatV
  isplitl [Hacc]; · unfold sendPay; iexact Hacc
  isplitl [Hs]; · iexact Hs
  iexact HO

/-- Both cells of a step closed, their counters at zero. -/
theorem close_step : doneR A K r c ⊢ (|={Set.univ}=> iprop(semVal (sendCell r c) 0 ∗ semVal (recvCell r c) 0) : sProp 𝕄) := by
  unfold doneR invsR
  iintro ⟨⟨#HIs, #HIr, #HIbP, #HIrP⟩, HatS, HatV⟩
  imod (close A (K (sendCell r c)) (sendCell r c)) $$ [HatS] with Hs0
  · isplitr; · iexact HIs
    iexact HatS
  imod (close A (K (recvCell r c)) (recvCell r c)) $$ [HatV] with Hv0
  · isplitr; · iexact HIr
    iexact HatV
  imodintro
  isplitl [Hs0]; · iexact Hs0
  iexact Hv0

end Steps

end Cert.KernelIdeal.Talk

end
-- ==== Proof.BodyIdeal.lean ====
/-
The kernel's body at a grid point: the two running sums take in one tile of the weights; at the last point the sums of
all devices are brought together and the result is written.
-/
module

public import proofs.«01_k».proof.Proof.StepsIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Loads and stores through whole rectangles -/

theorem off3_zero : (![0, 0, 0] : Fin 3 → Nat) = fun _ => 0 := by funext a; fin_cases a <;> rfl
theorem off2_zero : (![0, 0] : Fin 2 → Nat) = fun _ => 0 := by funext a; fin_cases a <;> rfl

/-- A load at the whole shape reads what the memref reads. -/
theorem readAt_full {s : Shape} {e : EltTy} (m : Memref sig .tc .vmem s e) {off : Fin s.rank → Nat} (h : off = fun _ => 0)
    (inb : ∀ a, off a + s.size a ≤ s.size a) (f : m.view.ty.Contents (Elt F)) :
    m.view.readAt (Elt F) (Rect.unit off s.size inb).toLoadRect f = m.view.read (Elt F) f := by
  subst h
  funext x
  show m.view.read (Elt F) f ((Rect.whole s).emb x) = _
  rw [Rect.emb_whole_apply]

/-- A store at the whole shape leaves what was stored. -/
theorem write_full {s : Shape} {e : EltTy} (m : Memref sig .tc .vmem s e) {off : Fin s.rank → Nat} (h : off = fun _ => 0)
    (inb : ∀ a, off a + s.size a ≤ s.size a) (f : m.view.ty.Contents (Elt F)) (w : s.Idx → Elt F e) :
    m.view.read (Elt F) ((m.access (Rect.unit off s.size inb)).write (Elt F) f w Finset.univ) = w := by
  subst h
  funext x
  have hx : (m.access (Rect.unit (fun _ => 0) s.size inb)).read (Elt F)
      ((m.access (Rect.unit (fun _ => 0) s.size inb)).write (Elt F) f w Finset.univ) x = w x :=
    congrFun (View.read_write_univ _ _) x
  rw [← hx]
  show m.view.read (Elt F) _ x = m.view.read (Elt F) _ ((Rect.whole s).emb x)
  rw [Rect.emb_whole_apply]

section Whole

variable (c : Dev nD) {α : Type} {Q : α → sProp (MT nD τ sig Unit (Elt F) ℕ UU ℕ)}

/-- LOAD of a whole memref. -/
theorem wp_ld {s : Shape} {e : EltTy} (m : Memref sig .tc .vmem s e) {off : Fin s.rank → Nat} (h : off = fun _ => 0)
    {inb : ∀ a, off a + s.size a ≤ s.size a} {hl : m.view.LoadsAt (Rect.unit off s.size inb).toLoadRect}
    (X : s.Idx → Elt F e) {k : (s.Idx → Elt F e) → Prog (TpuEff nD τ sig (Elt F) Λ₀ .tc) α} :
    (owns (c : Thread nD τ) m fullShare X : sProp 𝕄)
      ⊢ iprop((owns (c : Thread nD τ) m fullShare X -∗ wps c (k X) Q)
        -∗ wps c (.op (.load m (Rect.unit off s.size inb).toLoadRect hl) k) Q) := by
  unfold owns
  iintro ⟨%f, %hf, H⟩ Hk
  iapply (wp_load 𝒱₀ (c : Thread nD τ) none Set.univ (m := m) (View.setOn_subset_set _ _)) $$ H
  iintro H
  rw [readAt_full m h inb f, hf]
  iapply Hk
  iexists f
  isplitr; · ipureintro; exact hf
  iexact H

/-- STORE of a whole memref. -/
theorem wp_st {s : Shape} {e : EltTy} (m : Memref sig .tc .vmem s e) {off : Fin s.rank → Nat} (h : off = fun _ => 0)
    {inb : ∀ a, off a + s.size a ≤ s.size a} (X w : s.Idx → Elt F e)
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    (owns (c : Thread nD τ) m fullShare X : sProp 𝕄)
      ⊢ iprop((owns (c : Thread nD τ) m fullShare w -∗ wps c (k ⟨⟩) Q)
        -∗ wps c (.op (.store m (Rect.unit off s.size inb) w Finset.univ hx hm) k) Q) := by
  unfold owns
  iintro ⟨%f, %hf, H⟩ Hk
  iapply (wp_store 𝒱₀ (c : Thread nD τ) none Set.univ (m := m) (r := Rect.unit off s.size inb) (w := w) (Mk := Finset.univ)
    (S := m.view.set) (((m.access _).setOn_subset_set _).trans (View.set_slice_subset _ _))) $$ H
  iintro H
  iapply Hk
  iexists _
  isplitr
  swap; · iexact H
  ipureintro; exact write_full m h inb f w

/-- The accumulator's points-to, as owning it. -/
theorem acc_owns (a : Vec F S2x8x128 .f32) : accPts c a = (owns (c : Thread nD τ) accM fullShare a : sProp 𝕄) := by
  rw [owns_whole]
  show ((c : Thread nD τ).loc cc0_scratch2 ↦[(View.whole cc0_scratch2).set]{fullShare} a : sProp 𝕄) = _
  rw [View.set_whole]

end Whole

/-! ## What the accumulator holds -/

/-- One exchange: the own contents and the partner's added. -/
def step (a b : Vec F S2x8x128 .f32) : Vec F S2x8x128 .f32 := shapeCast S2x8x128 (addf a b) shapeCasts_S2x8x128_S2x8x128

/-- The accumulator after `n` exchanges, from what every device starts with. -/
def accAt (init : Dev nD → Vec F S2x8x128 .f32) : ℕ → Dev nD → Vec F S2x8x128 .f32
  | 0 => init
  | n + 1 => fun c => step (accAt init n c) (accAt init n (pr ⟨n % 4, Nat.mod_lt _ (by decide)⟩ c))

abbrev accs (init : Dev nD → Vec F S2x8x128 .f32) (r : Fin 4) (c : Dev nD) : Vec F S2x8x128 .f32 := accAt init r.val c

theorem accAt_succ (init : Dev nD → Vec F S2x8x128 .f32) (r : Fin 4) (c : Dev nD) :
    accAt init (r.val + 1) c = step (accs init r c) (accs init r (pr r c)) := by
  show step _ (accAt init r.val (pr ⟨r.val % 4, _⟩ c)) = _
  rw [show (⟨r.val % 4, Nat.mod_lt _ (by decide)⟩ : Fin 4) = r from Fin.ext (Nat.mod_eq_of_lt r.isLt)]

/-- The condition of the last point holds there only; that of the first point, at the first only. -/
theorem last_iff : ∀ t : Fin cfg0.N, k0_cond2 (grid0.coords t) = 1#1 ↔ t.val = 15 := by
  show ∀ t : Fin grid0.N, _; decide +kernel
theorem first_iff : ∀ t : Fin cfg0.N, (Scalar.cmpi .ne (Scalar.extui (Scalar.cmpi .eq (BitVec.ofNat 32 ((grid0.coords t) 0).val) 0#32) : BitVec 32) 0#32 = 1#1) ↔ t.val = 0 := by
  show ∀ t : Fin grid0.N, _; decide +kernel

theorem row1_inb (c : Dev nD) : ∀ a, (k0_off1 c) a + S1x1x128.size a ≤ S2x8x128.size a :=
  k0_off1_inb (grid0.coords t0_15) c ((last_iff t0_15).mpr rfl)
theorem row2_inb (c : Dev nD) : ∀ a, (k0_off2 c) a + S1x1x128.size a ≤ S2x8x128.size a :=
  k0_off2_inb (grid0.coords t0_15) c ((last_iff t0_15).mpr rfl)

abbrev row1 (c : Dev nD) : Rect S2x8x128 := Rect.unit (s := S2x8x128) (k0_off1 c) S1x1x128.size (row1_inb c)
abbrev row2 (c : Dev nD) : Rect S2x8x128 := Rect.unit (s := S2x8x128) (k0_off2 c) S1x1x128.size (row2_inb c)

/-- What device `c` starts the exchanges with: zeros but for its own row of each half, which are its two sums. -/
def startAcc (s l : Vec F S1x128 .f32) (c : Dev nD) : Vec F S2x8x128 .f32 :=
  (accM.access (row2 c)).write (Elt F) ((accM.access (row1 c)).write (Elt F) (k0_pay4 (F := F)) (k0_pay5 s) Finset.univ) (k0_pay6 l) Finset.univ

/-- What is written out of an accumulator. -/
def outOf (a : Vec F S2x8x128 .f32) : Vec F S8x128 .f32 :=
  k0_pay3 (accM.view.readAt (Elt F) (Rect.unit (s := S2x8x128) ![0, 0, 0] S1x8x128.size inb_S2x8x128_S1x8x128_0_0_0).toLoadRect a)
    (accM.view.readAt (Elt F) (Rect.unit (s := S2x8x128) ![1, 0, 0] S1x8x128.size inb_S2x8x128_S1x8x128_1_0_0).toLoadRect a)

/-- The two running sums after one more tile. -/
def sNext (x : Vec F S128x2048 .f32) (w : Vec F S2048x1024 .f32) (s : Vec F S1x128 .f32) : Vec F S1x128 .f32 := k0_pay13 x w s
def lNext (i : grid0.Coords) (c : Dev nD) (x : Vec F S128x2048 .f32) (w : Vec F S2048x1024 .f32) (lab : Vec F S1x128 .i32) (l : Vec F S1x128 .f32) :
    Vec F S1x128 .f32 := k0_pay1 (k0_pay12 x w) (k0_pay14 i c) (k0_pay15 lab) l

/-- The elements of slot `r`. -/
theorem slot_set (r : Fin 4) : (slotM r).view.set = recvM.view.setOn (slotR r).toLoadRect.set :=
  (View.set_reshape _ _).trans (View.set_slice _ _)

section Acc

variable (A : Fin 4 → Dev nD → Vec F S2x8x128 .f32) (r : Fin 4) (c : Dev nD) {α : Type} {Q : α → sProp (MT nD τ sig Unit (Elt F) ℕ UU ℕ)}

/-- ADD what landed in the slot to the accumulator. -/
theorem wp_add {off : Fin 4 → Nat} (hoff : off = ![r.val, 0, 0, 0]) {inb : ∀ a, off a + S1x2x8x128.size a ≤ S4x2x8x128.size a}
    {hl1 : accM.view.LoadsAt (Rect.unit (s := S2x8x128) ![0, 0, 0] S2x8x128.size inb_S2x8x128_S2x8x128_0_0_0).toLoadRect}
    {hl2 : recvM.view.LoadsAt (Rect.unit (s := S4x2x8x128) off S1x2x8x128.size inb).toLoadRect}
    {hl3 : accM.view.LoadsAt (Rect.unit (s := S2x8x128) ![0, 0, 0] S2x8x128.size inb_S2x8x128_S2x8x128_0_0_0).toLoadRect}
    {hx : (accM.access (Rect.unit (s := S2x8x128) ![0, 0, 0] S2x8x128.size inb_S2x8x128_S2x8x128_0_0_0)).Stores Finset.univ}
    {hm : (Finset.univ : Finset (Rect.unit (s := S2x8x128) ![0, 0, 0] S2x8x128.size inb_S2x8x128_S2x8x128_0_0_0).shape.Idx) = Finset.univ ∨ ∀ a, (Rect.unit (s := S2x8x128) ![0, 0, 0] S2x8x128.size inb_S2x8x128_S2x8x128_0_0_0).stride a = 1}
    (pay : Vec F S2x8x128 .f32 → Vec F S1x2x8x128 .f32 → Vec F S2x8x128 .f32)
    (hpay : ∀ v u, pay v u = step v (shapeCast S2x8x128 u shapeCasts_S1x2x8x128_S2x8x128))
    {k : PUnit → Prog (TpuEff nD τ sig (Elt F) Λ₀ .tc) α} :
    iprop(accPts c (A r c) ∗ recvPay A r c)
      ⊢ iprop(((accPts c (step (A r c) (A r (pr r c))) ∗ ∃ f, slotPts (F := F) r c f) -∗ wps c (k ⟨⟩) Q)
        -∗ wps c (.op (.load accM (Rect.unit (s := S2x8x128) ![0, 0, 0] S2x8x128.size inb_S2x8x128_S2x8x128_0_0_0).toLoadRect hl1) fun v =>
            .op (.load recvM (Rect.unit (s := S4x2x8x128) off S1x2x8x128.size inb).toLoadRect hl2) fun u =>
            .op (.load accM (Rect.unit (s := S2x8x128) ![0, 0, 0] S2x8x128.size inb_S2x8x128_S2x8x128_0_0_0).toLoadRect hl3) fun _ =>
            .op (.store accM (Rect.unit (s := S2x8x128) ![0, 0, 0] S2x8x128.size inb_S2x8x128_S2x8x128_0_0_0) (pay v u) Finset.univ hx hm) k) Q) := by
  subst hoff
  rw [acc_owns, acc_owns]
  unfold recvPay
  iintro ⟨Ha, ⟨%f, %hf, Hs⟩⟩ Hk
  iapply (wp_ld c accM off3_zero (A r c)) $$ Ha
  iintro Ha
  iapply (wp_load 𝒱₀ (c : Thread nD τ) none Set.univ (m := recvM) (S := (slotM r).view.set)
    (by rw [slot_set])) $$ Hs
  iintro Hs
  iapply (wp_ld c accM off3_zero (A r c)) $$ Ha
  iintro Ha
  iapply (wp_st c accM off3_zero (A r c) _) $$ Ha
  iintro Ha
  iapply Hk
  rw [hpay, show shapeCast S2x8x128 (recvM.view.readAt (Elt F) (slotR r).toLoadRect f) shapeCasts_S1x2x8x128_S2x8x128 = A r (pr r c) from hf]
  isplitl [Ha]; · iexact Ha
  iexists f; iexact Hs

end Acc

/-! ## One tile -/

/-- The condition of the first point. -/
abbrev isFirst (i : grid0.Coords) : Prop :=
  Scalar.cmpi .ne (Scalar.extui (Scalar.cmpi .eq (BitVec.ofNat 32 (i 0).val) 0#32) : BitVec 32) 0#32 = 1#1

section Tile

variable (i : grid0.Coords) (arg1 : Memref sig .tc .vmem S128x2048 .f32) (harg1 : arg1.IsWhole)
  (arg2 : Memref sig .tc .vmem S2048x1024 .f32) (harg2 : arg2.IsWhole) (arg3 : Memref sig .tc .vmem S1x128 .i32) (harg3 : arg3.IsWhole)
  (arg4 : Memref sig .tc .vmem S8x128 .f32) (harg4 : arg4.IsWhole)
  (c : Dev nD) (x : Vec F S128x2048 .f32) (w : Vec F S2048x1024 .f32) (lab : Vec F S1x128 .i32)

/-- The operands and the two sums, in hand. -/
def ops (s l : Vec F S1x128 .f32) : sProp 𝕄 :=
  iprop(owns (c : Thread nD τ) arg1 fullShare x ∗ owns (c : Thread nD τ) arg2 fullShare w ∗ owns (c : Thread nD τ) arg3 fullShare lab
    ∗ owns (c : Thread nD τ) sM fullShare s ∗ owns (c : Thread nD τ) lM fullShare l)

/-- What the sums start the point at. -/
abbrev sIn (s : Vec F S1x128 .f32) : Vec F S1x128 .f32 := if isFirst i then k0_pay10 (F := F) else s
abbrev lIn (l : Vec F S1x128 .f32) : Vec F S1x128 .f32 := if isFirst i then k0_pay11 (F := F) else l

set_option maxHeartbeats 1000000 in
theorem part7_run (s l : Vec F S1x128 .f32)
    {Q : (Σ' (arg0 : BitVec 32) (d0 : Dev nD) (v2 : BitVec 32) (v5 : BitVec 32) (v8 : BitVec 32) (v16 : FVec F S128x1024 .f32) (v30 : IVec S128x1024 32), IVec S128x1 32) → sProp (MT nD τ sig Unit (Elt F) ℕ UU ℕ)} :
    iprop(ops arg1 arg2 arg3 c x w lab s l
        ∗ (∀ v2, ∀ v5, ∀ v8, ops arg1 arg2 arg3 c x w lab (sNext x w (sIn i s)) (lIn i l)
            -∗ Q ⟨BitVec.ofNat 32 (i 0).val, c, v2, v5, v8, k0_pay12 x w, k0_pay14 i c, k0_pay15 lab⟩))
      ⊢ wps c (k0_part7 i arg1 harg1 arg2 harg2 arg3 harg3 arg4 harg4 sM (Memref.isWhole_whole _) lM (Memref.isWhole_whole _)
          accM (Memref.isWhole_whole _) recvM (Memref.isWhole_whole _) cc0_scratch4 cc0_scratch5) Q := by
  rw [k0_part7_eq_skeleton]; unfold k0_part7_skel
  simp only [Prog.lift, Prog.bind_op, Prog.bind_ret, Prog.pure_eq_ret, wp_deviceId]
  unfold ops sIn lIn
  iintro ⟨⟨Hx, Hw, Hlab, Hs, Hl⟩, Hk⟩
  by_cases h : isFirst i
  · rw [dif_pos h, if_pos h, if_pos h]
    iapply (wp_ld c sM off2_zero s) $$ Hs; iintro Hs
    iapply (wp_st c sM off2_zero s _) $$ Hs; iintro Hs
    iapply (wp_ld c lM off2_zero l) $$ Hl; iintro Hl
    iapply (wp_st c lM off2_zero l _) $$ Hl; iintro Hl
    iapply (wp_ld c arg1 off2_zero x) $$ Hx; iintro Hx
    iapply (wp_ld c arg2 off2_zero w) $$ Hw; iintro Hw
    iapply (wp_ld c sM off2_zero _) $$ Hs; iintro Hs
    iapply (wp_ld c sM off2_zero _) $$ Hs; iintro Hs
    iapply (wp_st c sM off2_zero _ _) $$ Hs; iintro Hs
    iapply (wp_ld c arg3 off2_zero lab) $$ Hlab; iintro Hlab
    unfold wps; rw [wp_ret]; imodintro
    iapply Hk
    unfold sNext
    isplitl [Hx]; · iexact Hx
    isplitl [Hw]; · iexact Hw
    isplitl [Hlab]; · iexact Hlab
    isplitl [Hs]; · iexact Hs
    iexact Hl
  · rw [dif_neg h, if_neg h, if_neg h]
    iapply (wp_ld c arg1 off2_zero x) $$ Hx; iintro Hx
    iapply (wp_ld c arg2 off2_zero w) $$ Hw; iintro Hw
    iapply (wp_ld c sM off2_zero _) $$ Hs; iintro Hs
    iapply (wp_ld c sM off2_zero _) $$ Hs; iintro Hs
    iapply (wp_st c sM off2_zero _ _) $$ Hs; iintro Hs
    iapply (wp_ld c arg3 off2_zero lab) $$ Hlab; iintro Hlab
    unfold wps; rw [wp_ret]; imodintro
    iapply Hk
    unfold sNext
    isplitl [Hx]; · iexact Hx
    isplitl [Hw]; · iexact Hw
    isplitl [Hlab]; · iexact Hlab
    isplitl [Hs]; · iexact Hs
    iexact Hl

/-- A point before the last: the sums take in the tile, nothing else happens. -/
theorem quiet_run (h2 : ¬ k0_cond2 i = 1#1) (s l : Vec F S1x128 .f32) {Q : PUnit → sProp (MT nD τ sig Unit (Elt F) ℕ UU ℕ)} :
    iprop(ops arg1 arg2 arg3 c x w lab s l
        ∗ (ops arg1 arg2 arg3 c x w lab (sNext x w (sIn i s)) (lNext i c x w lab (lIn i l)) -∗ Q ⟨⟩))
      ⊢ wps c (cc0_body i arg1 harg1 arg2 harg2 arg3 harg3 arg4 harg4 sM (Memref.isWhole_whole _) lM (Memref.isWhole_whole _)
          accM (Memref.isWhole_whole _) recvM (Memref.isWhole_whole _) cc0_scratch4 cc0_scratch5) Q := by
  rw [cc0_body_eq_skeleton]; unfold cc0_body_skel
  unfold wps
  rw [wp_bind]
  iintro ⟨Hops, Hk⟩
  iapply (part7_run i arg1 harg1 arg2 harg2 arg3 harg3 arg4 harg4 c x w lab s l)
  isplitl [Hops]; · iexact Hops
  iintro %v2 %v5 %v8 Hops
  simp only [Prog.lift, Prog.bind_op, Prog.bind_ret, Prog.pure_eq_ret]
  rw [dif_neg h2]
  unfold ops
  icases Hops with ⟨Hx, Hw, Hlab, Hs, Hl⟩
  iapply (wp_ld c lM off2_zero _) $$ Hl; iintro Hl
  iapply (wp_ld c lM off2_zero _) $$ Hl; iintro Hl
  iapply (wp_st c lM off2_zero _ _) $$ Hl; iintro Hl
  unfold wps; rw [wp_ret]; imodintro
  iapply Hk
  unfold lNext
  isplitl [Hx]; · iexact Hx
  isplitl [Hw]; · iexact Hw
  isplitl [Hlab]; · iexact Hlab
  isplitl [Hs]; · iexact Hs
  iexact Hl

end Tile

end Cert.KernelIdeal.Talk

end
-- ==== Proof.TailIdeal.lean ====
/-
The last point: the sums take in the last tile, are put into the device's row of a cleared accumulator, the accumulator
goes through the four exchanges, and the result is written out.
-/
module

public import proofs.«01_k».proof.Proof.BodyIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Acc

variable (c : Dev nD) {α : Type} {Q : α → sProp (MT nD τ sig Unit (Elt F) ℕ UU ℕ)}

/-- LOAD of part of the accumulator. -/
theorem wp_accld (a : Vec F S2x8x128 .f32) (r : Rect S2x8x128) {hl : accM.view.LoadsAt r.toLoadRect}
    {k : (r.shape.Idx → Elt F .f32) → Prog (TpuEff nD τ sig (Elt F) Λ₀ .tc) α} :
    (accPts c a : sProp 𝕄)
      ⊢ iprop((accPts c a -∗ wps c (k (accM.view.readAt (Elt F) r.toLoadRect a)) Q) -∗ wps c (.op (.load accM r.toLoadRect hl) k) Q) :=
  wp_load 𝒱₀ (c : Thread nD τ) none Set.univ (m := accM) (View.setOn_subset_set _ _)

/-- STORE of part of the accumulator. -/
theorem wp_accst (a : Vec F S2x8x128 .f32) (r : Rect S2x8x128) (w : r.shape.Idx → Elt F .f32)
    {hx : (accM.access r).Stores Finset.univ} {hm : (Finset.univ : Finset r.shape.Idx) = Finset.univ ∨ ∀ x, r.stride x = 1}
    {k : PUnit → Prog (TpuEff nD τ sig (Elt F) Λ₀ .tc) α} :
    (accPts c a : sProp 𝕄)
      ⊢ iprop((accPts c ((accM.access r).write (Elt F) a w Finset.univ) -∗ wps c (k ⟨⟩) Q)
        -∗ wps c (.op (.store accM r w Finset.univ hx hm) k) Q) :=
  wp_store 𝒱₀ (c : Thread nD τ) none Set.univ (m := accM) (r := r) (w := w) (Mk := Finset.univ)
    (S := accM.view.set) (((accM.access _).setOn_subset_set _).trans (View.set_slice_subset _ _))

end Acc

section Last

variable (i : grid0.Coords) (arg1 : Memref sig .tc .vmem S128x2048 .f32) (harg1 : arg1.IsWhole)
  (arg2 : Memref sig .tc .vmem S2048x1024 .f32) (harg2 : arg2.IsWhole) (arg3 : Memref sig .tc .vmem S1x128 .i32) (harg3 : arg3.IsWhole)
  (arg4 : Memref sig .tc .vmem S8x128 .f32) (harg4 : arg4.IsWhole)
  (c : Dev nD) (x : Vec F S128x2048 .f32) (w : Vec F S2048x1024 .f32) (lab : Vec F S1x128 .i32)

/-- The result's staging buffer, the accumulator and the four slots, in hand. -/
def bufs (o : Vec F S8x128 .f32) (a : Vec F S2x8x128 .f32) : sProp 𝕄 :=
  iprop(owns (c : Thread nD τ) arg4 fullShare o ∗ accPts c a ∗ bigSep Finset.univ fun r => iprop(∃ f, slotPts (F := F) r c f))

/-- Every counter of the device at zero. -/
def zeros : sProp 𝕄 :=
  iprop(semVal (barCell c) 0 ∗ bigSep Finset.univ fun r => iprop(semVal (sendCell r c) 0 ∗ semVal (recvCell r c) 0))

set_option maxHeartbeats 4000000 in
theorem last_run (init : Dev nD → Vec F S2x8x128 .f32) (h2 : k0_cond2 i = 1#1) (s l : Vec F S1x128 .f32)
    (hinit : init c = startAcc (sNext x w (sIn i s)) (lNext i c x w lab (lIn i l)) c)
    (o : Vec F S8x128 .f32) (a : Vec F S2x8x128 .f32) (W : Waits sig Unit) {Q : PUnit → sProp (MT nD τ sig Unit (Elt F) ℕ UU ℕ)} :
    iprop(ops arg1 arg2 arg3 c x w lab s l ∗ bufs arg4 c o a ∗ opened (accs init) c ∗ levAts L lv ∗ owes (c : Thread nD τ) (O₀ c) W
        ∗ (ops arg1 arg2 arg3 c x w lab (sNext x w (sIn i s)) (lNext i c x w lab (lIn i l))
            ∗ bufs arg4 c (outOf (accAt init 4 c)) (accAt init 4 c) ∗ zeros c ∗ (∃ W', owes (c : Thread nD τ) 0 W') -∗ Q ⟨⟩))
      ⊢ wps c (cc0_body i arg1 harg1 arg2 harg2 arg3 harg3 arg4 harg4 sM (Memref.isWhole_whole _) lM (Memref.isWhole_whole _)
          accM (Memref.isWhole_whole _) recvM (Memref.isWhole_whole _) cc0_scratch4 cc0_scratch5) Q := by
  rw [cc0_body_eq_skeleton]; unfold cc0_body_skel
  unfold wps
  rw [wp_bind]
  unfold bufs zeros opened
  simp only [bigSep_fin4]
  iintro ⟨Hops, ⟨Ho, Ha, ⟨H0, H1, H2, H3⟩⟩, ⟨%K, HB, ⟨G0, G1, G2, G3⟩⟩, #Hlev, HO, Hk⟩
  iapply (part7_run i arg1 harg1 arg2 harg2 arg3 harg3 arg4 harg4 c x w lab s l)
  isplitl [Hops]; · iexact Hops
  iintro %v2 %v5 %v8 Hops
  unfold ops
  icases Hops with ⟨Hx, Hw, Hlab, Hs, Hl⟩
  simp only [Prog.lift, Prog.bind_op, Prog.bind_ret, Prog.pure_eq_ret]
  rw [dif_pos h2, k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret]
  iapply (wp_ld c lM off2_zero _) $$ Hl; iintro Hl
  iapply (wp_ld c lM off2_zero _) $$ Hl; iintro Hl
  iapply (wp_st c lM off2_zero _ _) $$ Hl; iintro Hl
  -- the accumulator: cleared, and the two sums put into their rows
  iapply (wp_accld c _ _) $$ Ha; iintro Ha
  ihave Ha := (Entails.of_eq (acc_owns c _)) $$ Ha
  iapply (wp_st c accM off3_zero _ _) $$ Ha; iintro Ha
  iapply (wp_ld c sM off2_zero _) $$ Hs; iintro Hs
  ihave Ha := (Entails.of_eq (acc_owns c _).symm) $$ Ha
  iapply (wp_accld c _ _) $$ Ha; iintro Ha
  iapply (wp_accst c _ _ _) $$ Ha; iintro Ha
  iapply (wp_ld c lM off2_zero _) $$ Hl; iintro Hl
  iapply (wp_accld c _ _) $$ Ha; iintro Ha
  iapply (wp_accst c _ _ _) $$ Ha; iintro Ha
  have hstart := hinit
  unfold startAcc lNext at hstart
  ihave Ha := (Entails.of_eq (congrArg (accPts c) hstart.symm)) $$ Ha
  -- the barrier
  iapply (wp_sig (accs init) K 0 c ⟨k0_dev1 c, _⟩ (Fin.ext (dev1 c)) _ rfl _ rfl (O₀ c) (dueFrom c 0 + barDue 3 c + barDue 2 c + barDue 1 c) rfl W) $$ [G0 H0 HO]
  · isplitl [G0]; · iexact G0
    isplitl [H0]; · iexact H0
    iexact HO
  iintro ⟨G0, HO⟩
  iapply (wp_sig (accs init) K 1 c ⟨k0_dev2 c, _⟩ (Fin.ext (dev2 c)) _ rfl _ rfl _ (dueFrom c 0 + barDue 3 c + barDue 2 c) rfl W) $$ [G1 H1 HO]
  · isplitl [G1]; · iexact G1
    isplitl [H1]; · iexact H1
    iexact HO
  iintro ⟨G1, HO⟩
  iapply (wp_sig (accs init) K 2 c ⟨k0_dev3 c, _⟩ (Fin.ext (dev3 c)) _ rfl _ rfl _ (dueFrom c 0 + barDue 3 c) rfl W) $$ [G2 H2 HO]
  · isplitl [G2]; · iexact G2
    isplitl [H2]; · iexact H2
    iexact HO
  iintro ⟨G2, HO⟩
  iapply (wp_sig (accs init) K 3 c ⟨k0_dev4 c, _⟩ (Fin.ext (dev4 c)) _ rfl _ rfl _ (dueFrom c 0) rfl W) $$ [G3 H3 HO]
  · isplitl [G3]; · iexact G3
    isplitl [H3]; · iexact H3
    iexact HO
  iintro ⟨G3, HO⟩
  iapply (wp_bar (accs init) K c _ rfl _ rfl W) $$ [HB HO]
  · isplitl [HB]; · iexact HB
    isplitr; · iexact Hlev
    iexact HO
  iintro ⟨#HIb, HatB, HO, Hpays⟩
  ihave Hpays := (Entails.of_eq (bigSep_fin4 _)) $$ Hpays
  icases Hpays with ⟨P0, P1, P2, P3⟩
  -- exchange 0
  iapply (wp_enq (accs init) K 0 c ⟨k0_dev5 c, _⟩ (Fin.ext (dev5 c)) _ rfl _ rfl _ rfl _) $$ [G0 P0 Ha HO]
  · isplitl [G0]; · iexact G0
    isplitl [P0]; · iexact P0
    isplitl [Ha]; · iexact Ha
    iexact HO
  iintro ⟨G0, HO⟩
  iapply (wp_waits (accs init) K 0 c _ rfl _ rfl _ rfl _) $$ [G0 HO]
  · isplitl [G0]; · iexact G0
    isplitr; · iexact Hlev
    iexact HO
  iintro ⟨G0, Ha, P0, HO⟩
  iapply (wp_add (accs init) 0 c rfl k0_pay7 (fun _ _ => rfl)) $$ [Ha P0]
  · isplitl [Ha]; · iexact Ha
    iexact P0
  iintro ⟨Ha, H0⟩
  ihave Ha := (show accPts c (step (accs init 0 c) (accs init 0 (pr 0 c))) ⊢ accPts c (accAt init 1 c)
    from Entails.of_eq (congrArg (accPts c) (accAt_succ init 0 c).symm)) $$ Ha
  -- exchange 1
  iapply (wp_enq (accs init) K 1 c ⟨k0_dev6 c, _⟩ (Fin.ext (dev6 c)) _ rfl _ rfl _ rfl _) $$ [G1 P1 Ha HO]
  · isplitl [G1]; · iexact G1
    isplitl [P1]; · iexact P1
    isplitl [Ha]; · iexact Ha
    iexact HO
  iintro ⟨G1, HO⟩
  iapply (wp_waits (accs init) K 1 c _ rfl _ rfl _ rfl _) $$ [G1 HO]
  · isplitl [G1]; · iexact G1
    isplitr; · iexact Hlev
    iexact HO
  iintro ⟨G1, Ha, P1, HO⟩
  iapply (wp_add (accs init) 1 c rfl k0_pay8 (fun _ _ => rfl)) $$ [Ha P1]
  · isplitl [Ha]; · iexact Ha
    iexact P1
  iintro ⟨Ha, H1⟩
  ihave Ha := (show accPts c (step (accs init 1 c) (accs init 1 (pr 1 c))) ⊢ accPts c (accAt init 2 c)
    from Entails.of_eq (congrArg (accPts c) (accAt_succ init 1 c).symm)) $$ Ha
  -- exchange 2
  iapply (wp_enq (accs init) K 2 c ⟨k0_dev7 c, _⟩ (Fin.ext (dev7 c)) _ rfl _ rfl _ rfl _) $$ [G2 P2 Ha HO]
  · isplitl [G2]; · iexact G2
    isplitl [P2]; · iexact P2
    isplitl [Ha]; · iexact Ha
    iexact HO
  iintro ⟨G2, HO⟩
  iapply (wp_waits (accs init) K 2 c _ rfl _ rfl _ rfl _) $$ [G2 HO]
  · isplitl [G2]; · iexact G2
    isplitr; · iexact Hlev
    iexact HO
  iintro ⟨G2, Ha, P2, HO⟩
  iapply (wp_add (accs init) 2 c rfl k0_pay9 (fun _ _ => rfl)) $$ [Ha P2]
  · isplitl [Ha]; · iexact Ha
    iexact P2
  iintro ⟨Ha, H2⟩
  ihave Ha := (show accPts c (step (accs init 2 c) (accs init 2 (pr 2 c))) ⊢ accPts c (accAt init 3 c)
    from Entails.of_eq (congrArg (accPts c) (accAt_succ init 2 c).symm)) $$ Ha
  -- exchange 3
  iapply (wp_enq (accs init) K 3 c ⟨k0_dev8 c, _⟩ (Fin.ext (dev8 c)) _ rfl _ rfl _ rfl _) $$ [G3 P3 Ha HO]
  · isplitl [G3]; · iexact G3
    isplitl [P3]; · iexact P3
    isplitl [Ha]; · iexact Ha
    iexact HO
  iintro ⟨G3, HO⟩
  iapply (wp_waits (accs init) K 3 c _ rfl _ rfl _ rfl _) $$ [G3 HO]
  · isplitl [G3]; · iexact G3
    isplitr; · iexact Hlev
    iexact HO
  iintro ⟨G3, Ha, P3, HO⟩
  iapply (wp_add (accs init) 3 c rfl k0_pay2 (fun _ _ => rfl)) $$ [Ha P3]
  · isplitl [Ha]; · iexact Ha
    iexact P3
  iintro ⟨Ha, H3⟩
  ihave Ha := (show accPts c (step (accs init 3 c) (accs init 3 (pr 3 c))) ⊢ accPts c (accAt init 4 c)
    from Entails.of_eq (congrArg (accPts c) (accAt_succ init 3 c).symm)) $$ Ha
  -- the result
  iapply (wp_accld c _ _) $$ Ha; iintro Ha
  iapply (wp_accld c _ _) $$ Ha; iintro Ha
  iapply (wp_ld c arg4 off2_zero _) $$ Ho; iintro Ho
  iapply (wp_st c arg4 off2_zero _ _) $$ Ho; iintro Ho
  imod (close_step (accs init) K 0 c) $$ G0 with Z0
  imod (close_step (accs init) K 1 c) $$ G1 with Z1
  imod (close_step (accs init) K 2 c) $$ G2 with Z2
  imod (close_step (accs init) K 3 c) $$ G3 with Z3
  imod (close (accs init) (K (barCell c)) (barCell c)) $$ [HatB] with ZB
  · isplitr; · iexact HIb
    iexact HatB
  rw [wp_ret]; imodintro
  iapply Hk
  isplitl [Hx Hw Hlab Hs Hl]
  · isplitl [Hx]; · iexact Hx
    isplitl [Hw]; · iexact Hw
    isplitl [Hlab]; · iexact Hlab
    isplitl [Hs]; · iexact Hs
    iexact Hl
  isplitl [Ho Ha H0 H1 H2 H3]
  · isplitl [Ho]; · iexact Ho
    isplitl [Ha]; · iexact Ha
    isplitl [H0]; · iexact H0
    isplitl [H1]; · iexact H1
    isplitl [H2]; · iexact H2
    iexact H3
  isplitr [HO]
  · isplitl [ZB]; · iexact ZB
    isplitl [Z0]; · iexact Z0
    isplitl [Z1]; · iexact Z1
    isplitl [Z2]; · iexact Z2
    iexact Z3
  iexists _; iexact HO

end Last

end Cert.KernelIdeal.Talk

end
-- ==== Proof.RegionIdeal.lean ====
/-
The pallas_call as a region of @main: what its windows and scratch buffers hold from point to point, and its body at every
point.
-/
module

public import proofs.«01_k».proof.Proof.TailIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## What the windows and the sums hold -/

variable (V : Dev nD → Valuation τ sig (Elt F))

/-- The arrays the windows read and write, at the region's entry. -/
def arrOf (c : Dev nD) : (w : Fin cfg0.W) → Buf (Elt F) ((cfg0.win w).arr.view.loc (c : Thread nD τ))
  | ⟨0, _⟩ => V c main_v15
  | ⟨1, _⟩ => V c main_arg1
  | ⟨2, _⟩ => V c main_v21
  | ⟨3, _⟩ => V c main_v22

/-- The blocks at point `t`. -/
def xAt (c : Dev nD) (t : Fin cfg0.N) : Vec F S128x2048 .f32 := ((cfg0.win 0).blk t).view.read (Elt F) (arrOf V c 0)
def wAt (c : Dev nD) (t : Fin cfg0.N) : Vec F S2048x1024 .f32 := ((cfg0.win 1).blk t).view.read (Elt F) (arrOf V c 1)
def labAt (c : Dev nD) (t : Fin cfg0.N) : Vec F S1x128 .i32 := ((cfg0.win 2).blk t).view.read (Elt F) (arrOf V c 2)

/-- The `n`-th point. -/
def pt (n : ℕ) : Fin cfg0.N := ⟨n % 16, by show _ < grid0.N; rw [N_0]; exact Nat.mod_lt _ (by decide)⟩
theorem pt_val (t : Fin cfg0.N) : pt t.val = t :=
  Fin.ext (Nat.mod_eq_of_lt (show t.val < 16 from lt_of_lt_of_eq t.isLt N_0))

/-- The two sums before point `n`. -/
def sAt (c : Dev nD) : ℕ → Vec F S1x128 .f32
  | 0 => k0_pay10 (F := F)
  | n + 1 => sNext (xAt V c (pt n)) (wAt V c (pt n)) (sAt c n)
def lAt (c : Dev nD) : ℕ → Vec F S1x128 .f32
  | 0 => k0_pay11 (F := F)
  | n + 1 => lNext (grid0.coords (pt n)) c (xAt V c (pt n)) (wAt V c (pt n)) (labAt V c (pt n)) (lAt c n)

/-- What every device starts the exchanges with, and what is written out. -/
def initOf (c : Dev nD) : Vec F S2x8x128 .f32 := startAcc (sAt V c 16) (lAt V c 16) c
def resOf (c : Dev nD) : Vec F S8x128 .f32 := outOf (accAt (initOf V) 4 c)

/-- The sums a point finds, given what the buffers hold. -/
theorem sIn_eq (c : Dev nD) (t : Fin cfg0.N) (s : Vec F S1x128 .f32) (h : t.val ≠ 0 → s = sAt V c t.val) : sIn (grid0.coords t) s = sAt V c t.val := by
  unfold sIn isFirst
  by_cases h0 : t.val = 0
  · rw [if_pos ((first_iff t).mpr h0), h0]; rfl
  · rw [if_neg (fun hh => h0 ((first_iff t).mp hh)), h h0]
theorem lIn_eq (c : Dev nD) (t : Fin cfg0.N) (l : Vec F S1x128 .f32) (h : t.val ≠ 0 → l = lAt V c t.val) : lIn (grid0.coords t) l = lAt V c t.val := by
  unfold lIn isFirst
  by_cases h0 : t.val = 0
  · rw [if_pos ((first_iff t).mpr h0), h0]; rfl
  · rw [if_neg (fun hh => h0 ((first_iff t).mp hh)), h h0]

theorem sAt_succ (c : Dev nD) (t : Fin cfg0.N) : sAt V c (t.val + 1) = sNext (xAt V c t) (wAt V c t) (sAt V c t.val) := by
  show sNext (xAt V c (pt t.val)) (wAt V c (pt t.val)) _ = _; rw [pt_val]
theorem lAt_succ (c : Dev nD) (t : Fin cfg0.N) :
    lAt V c (t.val + 1) = lNext (grid0.coords t) c (xAt V c t) (wAt V c t) (labAt V c t) (lAt V c t.val) := by
  show lNext (grid0.coords (pt t.val)) c (xAt V c (pt t.val)) (wAt V c (pt t.val)) (labAt V c (pt t.val)) _ = _; rw [pt_val]

/-! ## The receive buffer as four slots -/

theorem slots_disjoint (r r' : Fin 4) (h : r ≠ r') : Disjoint (slotM r).view.set (slotM r').view.set := by
  rw [slot_set, slot_set]
  refine (Finset.disjoint_map _).mpr (Finset.disjoint_left.mpr fun y hy hy' => ?_)
  have h1 : r.val ≤ (y 0).val ∧ (y 0).val < r.val + 1 := Rect.mem_set_unit.mp hy 0
  have h2 : r'.val ≤ (y 0).val ∧ (y 0).val < r'.val + 1 := Rect.mem_set_unit.mp hy' 0
  exact h (Fin.ext (by omega))

/-- The elements of slot `r`, of the receive buffer on device `c`. -/
def slotIx (c : Dev nD) (r : Fin 4) : Finset (Idx ((c : Thread nD τ).loc cc0_scratch3)) := (slotM r).view.set
theorem slotIx_disjoint (c : Dev nD) (r r' : Fin 4) (h : r ≠ r') : Disjoint (slotIx c r) (slotIx c r') := slots_disjoint r r' h

/-- What the slots leave of the receive buffer. -/
def recvRest (c : Dev nD) : sProp 𝕄 :=
  iprop(∃ f, (c : Thread nD τ).loc cc0_scratch3 ↦[Ring.restOf (slotIx c)]{fullShare} f)

/-- The four slots, each at some contents. -/
def slots (c : Dev nD) : sProp 𝕄 := bigSep Finset.univ fun r => iprop(∃ f, (c : Thread nD τ).loc cc0_scratch3 ↦[slotIx c r]{fullShare} f)
theorem slots_eq (c : Dev nD) : (slots (F := F) c : sProp 𝕄) = bigSep Finset.univ fun r => iprop(∃ f, slotPts (F := F) r c f) := rfl

theorem recv_split (c : Dev nD) : (iprop(∃ f : Buf (Elt F) ((c : Thread nD τ).loc cc0_scratch3), (c : Thread nD τ).loc cc0_scratch3 ↦{fullShare} f) : sProp 𝕄)
    ⊢ iprop(slots (F := F) c ∗ recvRest c) := by
  unfold slots recvRest
  exact Ring.fam_split_ex (slotIx c) (slotIx_disjoint c)
theorem recv_join (c : Dev nD) : iprop(slots (F := F) c ∗ recvRest c)
    ⊢ (iprop(∃ f : Buf (Elt F) ((c : Thread nD τ).loc cc0_scratch3), (c : Thread nD τ).loc cc0_scratch3 ↦{fullShare} f) : sProp 𝕄) := by
  unfold slots recvRest
  exact Ring.fam_join (slotIx c) (slotIx_disjoint c) (fun _ => FloatOps.ofBits .f32 0)

/-! ## The region's proof data -/

/-- Before point `n`: the sums, the accumulator and the slots, and the protocol's state, which the last point spends. -/
def Φat (c : Dev nD) (n : ℕ) : sProp 𝕄 :=
  iprop((∃ s l, ⌜n ≠ 0 → s = sAt V c n ∧ l = lAt V c n⌝ ∗ owns (c : Thread nD τ) sM fullShare s ∗ owns (c : Thread nD τ) lM fullShare l)
    ∗ (∃ a, accPts c a) ∗ (bigSep Finset.univ fun r => iprop(∃ f, slotPts (F := F) r c f))
    ∗ (if n = 16 then zeros c else iprop(opened (accs (initOf V)) c ∗ levAts L lv)) ∗ recvRest c ∗ ∃ r, prngReg c r)

def dat (c : Dev nD) : Dat τ (Elt F) Unit ℕ UU ℕ cfg0 c where
  A := arrOf V c
  after w t := match w with
    | ⟨0, _⟩ => xAt V c t
    | ⟨1, _⟩ => wAt V c t
    | ⟨2, _⟩ => labAt V c t
    | ⟨3, _⟩ => resOf V c
  Φ t := Φat V c t.val
  q _ := fullShare
  owed t := if t.val = 16 then 0 else O₀ c

theorem before0 (c : Dev nD) (t : Fin cfg0.N) (d) : (dat V c).before 0 t d = xAt V c t :=
  (dat V c).before_in_eq_fetched 0 rfl (fun _ => rfl) (fun _ _ _ => rfl) (fun _ => rfl) t d
theorem before1 (c : Dev nD) (t : Fin cfg0.N) (d) : (dat V c).before 1 t d = wAt V c t :=
  (dat V c).before_in_eq_fetched 1 rfl (fun _ => rfl) (fun _ _ _ => rfl) (fun _ => rfl) t d
theorem before2 (c : Dev nD) (t : Fin cfg0.N) (d) : (dat V c).before 2 t d = labAt V c t :=
  (dat V c).before_in_eq_fetched 2 rfl (fun _ => rfl) (fun _ _ _ => rfl) (fun _ => rfl) t d

theorem owesAt_intro (c : Dev nD) (t : Fin (cfg0.N + 1)) (O : CellTallies nD τ sig Unit) (h : (dat V c).owed t = O) (W : Waits sig Unit) :
    (owes (c : Thread nD τ) O W : sProp 𝕄) ⊢ (dat V c).owesAt () t := by
  unfold Dat.owesAt Pipeline.owesWithin Dat.bound; rw [h]
  iintro HO; iexists W; isplitr; · ipureintro; exact fun _ _ => Or.inl trivial
  iexact HO
theorem owesAt_elim (c : Dev nD) (t : Fin (cfg0.N + 1)) (O : CellTallies nD τ sig Unit) (h : (dat V c).owed t = O) :
    ((dat V c).owesAt () t : sProp 𝕄) ⊢ iprop(∃ W, owes (c : Thread nD τ) O W) := by
  unfold Dat.owesAt Pipeline.owesWithin; rw [h]
  iintro ⟨%W, -, HO⟩; iexists W; iexact HO

theorem owed_cast (c : Dev nD) (t : Fin cfg0.N) : (dat V c).owed t.castSucc = O₀ c :=
  if_neg (fun h : t.val = 16 => absurd (lt_of_lt_of_eq t.isLt N_0) (by omega))

theorem idle3 (t : Fin cfg0.N) (h : t.val ≠ 15) : idle0 3 (grid0.coords t) = true := by
  show (!(k0_cond2 (grid0.coords t) == 1#1)) = true
  rw [Bool.not_eq_true', beq_eq_false_iff_ne]
  exact fun hh => h ((last_iff t).mp hh)
theorem live3 (t : Fin cfg0.N) (h : t.val = 15) : idle0 3 (grid0.coords t) = false := by
  show (!(k0_cond2 (grid0.coords t) == 1#1)) = false
  rw [(last_iff t).mpr h]; rfl
theorem noflush3 (t : Fin cfg0.N) (h : t.val ≠ 15) : (win0 3).flush t = false := by
  rw [Bool.eq_false_iff]; intro hh
  have := (flush0_3 t).mp hh
  have := lt_of_lt_of_eq t.isLt N_0
  omega

set_option maxHeartbeats 1000000 in
/-- The windows' buffers after a point: the operands in place, the result's as it was until the last point writes it. -/
theorem body (c : Dev nD) : BodyObligation (dat V c) defs₀ 𝒱₀ () Set.univ := fun t => by
  have ht : t.val < 16 := lt_of_lt_of_eq t.isLt N_0
  rw [bigSep_W0, bigSep_W0]
  show iprop(Φat V c t.val ∗ (dat V c).owesAt () t.castSucc ∗ (∃ d, owns (c : Thread nD τ) (st0_0 t) fullShare ((dat V c).before 0 t d))
      ∗ (∃ d, owns (c : Thread nD τ) (st0_1 t) fullShare ((dat V c).before 1 t d)) ∗ (∃ d, owns (c : Thread nD τ) (st0_2 t) fullShare ((dat V c).before 2 t d))
      ∗ ∃ d, owns (c : Thread nD τ) (st0_3 t) fullShare ((dat V c).before 3 t d))
    ⊢ wps c (bodyAt0 t) fun _ => iprop(Φat V c (t.val + 1) ∗ (dat V c).owesAt () t.succ ∗ owns (c : Thread nD τ) (st0_0 t) fullShare (xAt V c t)
      ∗ owns (c : Thread nD τ) (st0_1 t) fullShare (wAt V c t) ∗ owns (c : Thread nD τ) (st0_2 t) fullShare (labAt V c t)
      ∗ (match cfg0.idle 3 (cfg0.grid.coords t) with
          | true => match (cfg0.win 3).flush t with
            | false => iprop(∃ d, owns (c : Thread nD τ) (st0_3 t) fullShare ((dat V c).before 3 t d))
            | true => owns (c : Thread nD τ) (st0_3 t) fullShare (resOf V c)
          | false => owns (c : Thread nD τ) (st0_3 t) fullShare (resOf V c)))
  simp only [before0, before1, before2]
  unfold Φat
  rw [if_neg (show ¬ t.val = 16 by omega)]
  by_cases h15 : t.val = 15
  · rw [live3 t h15, if_pos (show t.val + 1 = 16 by omega)]
    iintro ⟨⟨⟨%s, %l, %hsl, Hs, Hl⟩, ⟨%a, Ha⟩, Hslots, Hst, Hrest, Hreg⟩, HO, ⟨%_, Hx⟩, ⟨%_, Hw⟩, ⟨%_, Hlab⟩, ⟨%d, Ho⟩⟩
    ihave HO' := (owesAt_elim V c _ (O₀ c) (owed_cast V c t)) $$ HO
    icases HO' with ⟨%W, HO⟩
    have hs := sIn_eq V c t s (fun h => (hsl h).1)
    have hl := lIn_eq V c t l (fun h => (hsl h).2)
    icases Hst with ⟨Hop, Hlev⟩
    iapply (last_run (grid0.coords t) _ _ _ _ _ _ _ _ c (xAt V c t) (wAt V c t) (labAt V c t) (initOf V) ((last_iff t).mpr h15) s l
      (by rw [hs, hl, ← sAt_succ, ← lAt_succ, h15]; rfl) _ a W)
    unfold ops bufs
    isplitl [Hx Hw Hlab Hs Hl]
    · isplitl [Hx]; · iexact Hx
      isplitl [Hw]; · iexact Hw
      isplitl [Hlab]; · iexact Hlab
      isplitl [Hs]; · iexact Hs
      iexact Hl
    isplitl [Ho Ha Hslots]
    · isplitl [Ho]; · iexact Ho
      isplitl [Ha]; · iexact Ha
      iexact Hslots
    isplitl [Hop]; · iexact Hop
    isplitl [Hlev]; · iexact Hlev
    isplitl [HO]; · iexact HO
    rw [hs, hl, ← sAt_succ, ← lAt_succ]
    iintro ⟨⟨Hx, Hw, Hlab, Hs, Hl⟩, ⟨Ho, Ha, Hslots⟩, Hz, ⟨%W', HO⟩⟩
    isplitl [Hs Hl Ha Hslots Hz Hrest Hreg]
    · isplitl [Hs Hl]
      · iexists _; iexists _
        isplitr; · ipureintro; exact fun _ => ⟨rfl, rfl⟩
        isplitl [Hs]; · iexact Hs
        iexact Hl
      isplitl [Ha]; · iexists _; iexact Ha
      isplitl [Hslots]; · iexact Hslots
      isplitl [Hz]; · iexact Hz
      isplitl [Hrest]; · iexact Hrest
      iexact Hreg
    isplitl [HO]; · iapply (owesAt_intro V c t.succ 0 (if_pos (show t.val + 1 = 16 by omega)) W'); iexact HO
    isplitl [Hx]; · iexact Hx
    isplitl [Hw]; · iexact Hw
    isplitl [Hlab]; · iexact Hlab
    iexact Ho
  · rw [idle3 t h15, noflush3 t h15, if_neg (show ¬ t.val + 1 = 16 by omega)]
    iintro ⟨⟨⟨%s, %l, %hsl, Hs, Hl⟩, ⟨%a, Ha⟩, Hslots, Hst, Hrest, Hreg⟩, HO, ⟨%_, Hx⟩, ⟨%_, Hw⟩, ⟨%_, Hlab⟩, ⟨%d, Ho⟩⟩
    ihave HO' := (owesAt_elim V c _ (O₀ c) (owed_cast V c t)) $$ HO
    icases HO' with ⟨%W, HO⟩
    have hs := sIn_eq V c t s (fun h => (hsl h).1)
    have hl := lIn_eq V c t l (fun h => (hsl h).2)
    iapply (quiet_run (grid0.coords t) _ _ _ _ _ _ _ _ c (xAt V c t) (wAt V c t) (labAt V c t) (fun h => h15 ((last_iff t).mp h)) s l)
    unfold ops
    isplitl [Hx Hw Hlab Hs Hl]
    · isplitl [Hx]; · iexact Hx
      isplitl [Hw]; · iexact Hw
      isplitl [Hlab]; · iexact Hlab
      isplitl [Hs]; · iexact Hs
      iexact Hl
    rw [hs, hl, ← sAt_succ, ← lAt_succ]
    iintro ⟨Hx, Hw, Hlab, Hs, Hl⟩
    isplitl [Hs Hl Ha Hslots Hst Hrest Hreg]
    · isplitl [Hs Hl]
      · iexists _; iexists _
        isplitr; · ipureintro; exact fun _ => ⟨rfl, rfl⟩
        isplitl [Hs]; · iexact Hs
        iexact Hl
      isplitl [Ha]; · iexists _; iexact Ha
      isplitl [Hslots]; · iexact Hslots
      isplitl [Hst]; · iexact Hst
      isplitl [Hrest]; · iexact Hrest
      iexact Hreg
    isplitl [HO]; · iapply (owesAt_intro V c t.succ (O₀ c) (if_neg (show ¬ t.val + 1 = 16 by omega)) W); iexact HO
    isplitl [Hx]; · iexact Hx
    isplitl [Hw]; · iexact Hw
    isplitl [Hlab]; · iexact Hlab
    iexists d; iexact Ho

end Cert.KernelIdeal.Talk

end
-- ==== Proof.SegIdeal.lean ====
/-
The region's record: how the protocol's state enters the pallas_call, and what the call leaves.
-/
module

public import proofs.«01_k».proof.Proof.RegionIdeal
public import Idealize.ShloMosaic.Lib.Pipeline.ValueKit

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (V : Dev nD → Valuation τ sig (Elt F))

/-! ## The arrays before and after -/

/-- The buffers after the region: the result array holds what was written out, every other one what it held. -/
def Vout (c : Dev nD) : Valuation τ sig (Elt F) := Function.update (V c) main_v22 (resOf V c)

/-- The result array ends holding what the last point wrote out. -/
theorem arr3 (c : Dev nD) : (dat V c).arrAt 3 cfg0.N = resOf V c :=
  (dat V c).arrAt_eq_of_after_last 3 t0_15 (by decide +kernel) (resOf V c) fun _ => rfl

theorem arr_start (c : Dev nD) (w : Fin cfg0.W) : (dat V c).arrAt w 0 = V c (Proc.devRef .tc (Pipeline.arrRef cfg0.spec w)) := by
  match w with
  | ⟨0, _⟩ => rfl
  | ⟨1, _⟩ => rfl
  | ⟨2, _⟩ => rfl
  | ⟨3, _⟩ => rfl

theorem Vout_of (c : Dev nD) (b : DevRef τ sig) (h : b ≠ Proc.devRef .tc main_v22) : Vout V c b = V c b := Function.update_of_ne h _ _
theorem Vout_res (c : Dev nD) : Vout V c main_v22 = resOf V c := Function.update_self _ _ _

theorem arr_end (c : Dev nD) (w : Fin cfg0.W) : (dat V c).arrAt w cfg0.N = Vout V c (Proc.devRef .tc (Pipeline.arrRef cfg0.spec w)) := by
  match w with
  | ⟨0, _⟩ => exact ((dat V c).arrAt_in 0 rfl _).trans (Vout_of V c _ (by decide)).symm
  | ⟨1, _⟩ => exact ((dat V c).arrAt_in 1 rfl _).trans (Vout_of V c _ (by decide)).symm
  | ⟨2, _⟩ => exact ((dat V c).arrAt_in 2 rfl _).trans (Vout_of V c _ (by decide)).symm
  | ⟨3, _⟩ => exact (arr3 V c).trans (Vout_res V c).symm

/-! ## Opening the scoped cells -/

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem ownSems_eq (c : Dev nD) : (Pipeline.ownSems0 osem c : sProp 𝕄)
    = iprop(semVal (sendCell 0 c) 0 ∗ semVal (sendCell 1 c) 0 ∗ semVal (sendCell 2 c) 0 ∗ semVal (sendCell 3 c) 0
      ∗ semVal (recvCell 0 c) 0 ∗ semVal (recvCell 1 c) 0 ∗ semVal (recvCell 2 c) 0 ∗ semVal (recvCell 3 c) 0) :=
  bigSep_fin8 (fun k : Fin 8 => (semVal ((c : Thread nD τ), osem k) 0 : sProp 𝕄))

/-- The two cells of a step opened with their counters. -/
theorem openR_of (A : Fin 4 → Dev nD → Vec F S2x8x128 .f32) (K : GSem nD τ sig → ℕ) (r : Fin 4) (c : Dev nD) :
    iprop(ghostR A K r c ∗ semVal (sendCell r c) 0 ∗ semVal (recvCell r c) 0) ⊢ (|={Set.univ}=> openR A K r c : sProp 𝕄) := by
  unfold ghostR openR
  iintro ⟨⟨#HI, HoS, HoV, #HrP, HtB, HtV, HtS, Hcr⟩, Hs, Hv⟩
  ihave HI' := (Entails.of_eq (show invsR A K r c = _ from rfl)) $$ HI
  unfold invsR
  icases HI with ⟨#HIs, #HIv, #HIb, #HIvP⟩
  imod (Rounds.cell_open ER (talkRd A) (g := sendCell r c) (Set.mem_univ (K (sendCell r c)))) $$ [HoS Hs] with ⟨HatS, #HrS⟩
  · isplitr; · iexact HIs
    isplitl [HoS] <;> iassumption
  imod (Rounds.cell_open ER (talkRd A) (g := recvCell r c) (Set.mem_univ (K (recvCell r c)))) $$ [HoV Hv] with ⟨HatV, #HrV⟩
  · isplitr; · iexact HIv
    isplitl [HoV] <;> iassumption
  imodintro
  isplitr
  · isplitr; · iexact HIs
    isplitr; · iexact HIv
    isplitr; · iexact HIb
    iexact HIvP
  isplitl [HatS]
  · isplitl [HatS]; · iexact HatS
    iexact HrS
  isplitl [HatV]
  · isplitl [HatV]; · iexact HatV
    iexact HrV
  isplitr; · iexact HrP
  isplitl [HtB]; · iexact HtB
  isplitl [HtV]; · iexact HtV
  isplitl [HtS]; · iexact HtS
  iexact Hcr

def Tk (c : Dev nD) : sProp 𝕄 := ghost (accs (initOf V)) c
def Xk (c : Dev nD) : sProp 𝕄 := iprop(opened (accs (initOf V)) c ∗ levAts L lv)
def Yk (c : Dev nD) : sProp 𝕄 := semVal (barCell c) 0

theorem hopen (c : Dev nD) : iprop(Tk V c ∗ Pipeline.ownSems0 osem c ∗ levAts L lv) ⊢ (|={Set.univ}=> Xk V c : sProp 𝕄) := by
  rw [ownSems_eq]
  unfold Tk Xk ghost opened
  simp only [bigSep_fin4]
  iintro ⟨⟨%K, HB, G0, G1, G2, G3⟩, ⟨S0, S1, S2, S3, R0, R1, R2, R3⟩, #Hlev⟩
  imod (openR_of (accs (initOf V)) K 0 c) $$ [G0 S0 R0] with G0
  · isplitl [G0]; · iexact G0
    isplitl [S0] <;> iassumption
  imod (openR_of (accs (initOf V)) K 1 c) $$ [G1 S1 R1] with G1
  · isplitl [G1]; · iexact G1
    isplitl [S1] <;> iassumption
  imod (openR_of (accs (initOf V)) K 2 c) $$ [G2 S2 R2] with G2
  · isplitl [G2]; · iexact G2
    isplitl [S2] <;> iassumption
  imod (openR_of (accs (initOf V)) K 3 c) $$ [G3 S3 R3] with G3
  · isplitl [G3]; · iexact G3
    isplitl [S3] <;> iassumption
  imodintro
  isplitr []
  · iexists K
    isplitl [HB]; · iexact HB
    isplitl [G0]; · iexact G0
    isplitl [G1]; · iexact G1
    isplitl [G2]; · iexact G2
    iexact G3
  iexact Hlev

/-! ## The region's entry and exit -/

theorem acc_whole (c : Dev nD) (a : Vec F S2x8x128 .f32) :
    (accPts c a : sProp 𝕄) = ((c : Thread nD τ).loc cc0_scratch2 ↦{fullShare} a) :=
  (acc_owns c a).trans (owns_whole (c : Thread nD τ) cc0_scratch2 fullShare a)

theorem hin (c : Dev nD) : iprop(Pipeline.scopedRest spec0 c ∗ (∃ r, prngReg c r) ∗ StableHlo.held (c.tc : Thread nD τ) ∅ (V c) ∗ Xk V c)
    ⊢ ((dat V c).Φ 0 : sProp 𝕄) := by
  show _ ⊢ Φat V c 0
  rw [scopedRest0_eq]
  unfold Φat Xk
  rw [if_neg (show ¬ (0 : ℕ) = 16 by decide)]
  iintro ⟨⟨⟨%s, Hs⟩, ⟨%l, Hl⟩, ⟨%a, Ha⟩, Hr⟩, Hp, -, HX⟩
  ihave Hr' := (recv_split c) $$ Hr
  icases Hr' with ⟨Hsl, Hrest⟩
  isplitl [Hs Hl]
  · iexists s; iexists l
    isplitr; · ipureintro; exact fun h => absurd rfl h
    isplitl [Hs]
    · iapply (Entails.of_eq (owns_whole c cc0_scratch0 fullShare s).symm) $$ Hs
    iapply (Entails.of_eq (owns_whole c cc0_scratch1 fullShare l).symm) $$ Hl
  isplitl [Ha]; · iexists a; iapply (Entails.of_eq (acc_whole c a).symm) $$ Ha
  isplitl [Hsl]; · iapply (Entails.of_eq (slots_eq c)) $$ Hsl
  isplitl [HX]; · iexact HX
  isplitl [Hrest]; · iexact Hrest
  iexact Hp

theorem hout (c : Dev nD) : ((dat V c).Φ (Fin.last cfg0.N) : sProp 𝕄)
    ⊢ iprop(Pipeline.scopedRest spec0 c ∗ (∃ r, prngReg c r) ∗ StableHlo.held (c.tc : Thread nD τ) ∅ (Vout V c) ∗ Pipeline.ownSems0 osem c ∗ Yk c) := by
  show Φat V c grid0.N ⊢ _
  rw [N_0, scopedRest0_eq, ownSems_eq]
  unfold Φat Yk zeros StableHlo.held
  rw [if_pos rfl, bigSep_empty, bigSep_fin4 (fun r => iprop(semVal (sendCell r c) 0 ∗ semVal (recvCell r c) 0))]
  iintro ⟨⟨%s, %l, -, Hs, Hl⟩, ⟨%a, Ha⟩, Hsl, ⟨Hb, ⟨S0, R0⟩, ⟨S1, R1⟩, ⟨S2, R2⟩, ⟨S3, R3⟩⟩, Hrest, Hp⟩
  isplitl [Hs Hl Ha Hsl Hrest]
  · isplitl [Hs]; · iexists s; iapply (Entails.of_eq (owns_whole c cc0_scratch0 fullShare s)) $$ Hs
    isplitl [Hl]; · iexists l; iapply (Entails.of_eq (owns_whole c cc0_scratch1 fullShare l)) $$ Hl
    isplitl [Ha]; · iexists a; iapply (Entails.of_eq (acc_whole c a)) $$ Ha
    iapply (recv_join c)
    isplitl [Hsl]; · iapply (Entails.of_eq (slots_eq c).symm) $$ Hsl
    iexact Hrest
  isplitl [Hp]; · iexact Hp
  isplitr; · iempintro
  isplitr [Hb]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  iexact Hb

/-! ## The record -/

abbrev pdats (V : Dev nD → Valuation τ sig (Elt F)) (p : Fin 1) (c : Dev nD) : Dat τ (Elt F) Unit ℕ UU ℕ (cfgs p) c :=
  match p with
  | ⟨0, _⟩ => dat V c

theorem share_full (c : Dev nD) (w : Fin cfg0.W) : (dat V c).share w = fullShare := by
  unfold Dat.share; split <;> rfl

theorem owed_last (c : Dev nD) : (dat V c).owed (Fin.last cfg0.N) = 0 := by
  show (if grid0.N = 16 then (0 : CellTallies nD τ sig Unit) else O₀ c) = 0
  exact if_pos N_0

theorem cut : Pipeline.LevelCutOwed (pcfgs (F := F)) adm (pdats V) () L lv 0 (fun _ => (0 : ℕ)) where
  hι c w s := by rw [L_tc]; exact Finset.mem_singleton_self _
  hιb c w s := by
    have h : ∀ (w : Fin cfg0.W) (s : Fin (cfg0.win w).nbuf), ((cfg0.win w).sem s).val < 9 := by decide
    show lv _ () ≤ 0
    dsimp only [lv]
    exact le_of_eq (if_neg (Nat.not_le.mpr (h w s)))
  hD c t g i h := by
    have e : (pdats V 0 c).owed t = if t.val = 16 then 0 else O₀ c := rfl
    rw [e] at h
    split at h
    · exact absurd h (Nat.lt_irrefl 0)
    · exact O₀_pos c g i h

/-- The unscoped buffers that are no window's array. -/
abbrev others : Finset (DevRef τ sig) := Pipeline.ucRefs τ sig \ Pipeline.arrRefs (τ := τ) spec0

theorem others_ne (b : DevRef τ sig) (h : b ∈ others) : b ≠ Proc.devRef .tc main_v22 := by
  rintro rfl
  exact (Finset.mem_sdiff.mp h).2 (by decide)

set_option backward.isDefEq.respectTransparency.types false in
def reg : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ others (Finset.empty_subset _) launch0.toP rfl (fun c => (body V c).loose)
    (fun _ => 0) O₀ (fun c => (zero_add (O₀ c)).symm) (owed_last V) (fun _ => rfl)
    (fun c w => share_full V c w)
    V (Vout V) (fun c b hb => Vout_of V c b (others_ne b (Finset.mem_sdiff.mp hb).1))
    (Tk V) Yk (Xk V) Yk (hopen V) (hin V) (hout V)
    (fun c => by iintro H; imodintro; iexact H)
    (fun _ => 0) (cut V) (fun _ => iprop(emp)) (arr_start V) (arr_end V)

end Cert.KernelIdeal.Talk

end
-- ==== Proof.LaunchIdeal.lean ====
/-
The launch: every cell's invariant allocated, the scoped ones still closed, the tokens dealt to the devices that pay with
them; and the run of @main from any memory.
-/
module

public import proofs.«01_k».proof.Proof.SegIdeal
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (A : Fin 4 → Dev nD → Vec F S2x8x128 .f32)

/-! ## The cells and the tokens -/

theorem osem_inj : Function.Injective osem := by decide +kernel
theorem osem_ne_bar : ∀ k : Fin 8, osem k ≠ .reg barrier0 := by decide +kernel

def barEmb : Dev nD ↪ GSem nD τ sig := ⟨barCell, fun _ _ h => congrArg (fun g : GSem nD τ sig => g.1.1) h⟩
def scEmb : Dev nD × Fin 8 ↪ GSem nD τ sig :=
  ⟨fun p => ((p.1 : Thread nD τ), osem p.2), fun _ _ h =>
    Prod.ext (congrArg (fun g : GSem nD τ sig => g.1.1) h) (osem_inj (congrArg Prod.snd h))⟩

/-- The cells open at launch, and those the region opens. -/
abbrev barCells : Finset (GSem nD τ sig) := Finset.univ.map barEmb
abbrev scCells : Finset (GSem nD τ sig) := Finset.univ.map scEmb

theorem disjoint_cells : Disjoint barCells scCells :=
  Finset.disjoint_left.mpr fun g h h' => by
    obtain ⟨c, -, rfl⟩ := Finset.mem_map.mp h
    obtain ⟨p, -, hp⟩ := Finset.mem_map.mp h'
    exact osem_ne_bar p.2 (congrArg Prod.snd hp)

/-- The duties of a device's cells: four at its barrier cell, one at each of the eight others. -/
def tokAt : Fin 4 ⊕ Fin 8 → SemLoc sig × Fin 4
  | .inl r => (.reg barrier0, r)
  | .inr k => (osem k, 0)
theorem tokAt_inj : Function.Injective tokAt := by
  rintro (r | k) (r' | k') h
  · exact congrArg Sum.inl (congrArg Prod.snd h)
  · exact absurd (congrArg Prod.fst h).symm (osem_ne_bar k')
  · exact absurd (congrArg Prod.fst h) (osem_ne_bar k)
  · exact congrArg Sum.inr (osem_inj (congrArg Prod.fst h))

def tokEmb : Dev nD × (Fin 4 ⊕ Fin 8) ↪ GSem nD τ sig × ℕ × Fin 4 :=
  ⟨fun p => (((p.1 : Thread nD τ), (tokAt p.2).1), 0, (tokAt p.2).2), fun _ _ h =>
    Prod.ext (congrArg (fun x : GSem nD τ sig × ℕ × Fin 4 => x.1.1.1) h)
      (tokAt_inj (Prod.ext (congrArg (fun x : GSem nD τ sig × ℕ × Fin 4 => x.1.2) h) (congrArg (fun x : GSem nD τ sig × ℕ × Fin 4 => x.2.2) h)))⟩
abbrev talkToks : Finset (GSem nD τ sig × ℕ × Fin 4) := Finset.univ.map tokEmb

theorem bar_mem (c : Dev nD) : barCell c ∈ barCells ∪ scCells :=
  Finset.mem_union_left _ (Finset.mem_map_of_mem barEmb (Finset.mem_univ c))
theorem sc_mem (c : Dev nD) (k : Fin 8) : ((c : Thread nD τ), osem k) ∈ barCells ∪ scCells :=
  Finset.mem_union_right _ (Finset.mem_map_of_mem scEmb (Finset.mem_univ (c, k)))

/-- Where the semaphores of step `r` sit among the eight. -/
abbrev sIx (r : Fin 4) : Fin 8 := ⟨r.val, by omega⟩
abbrev vIx (r : Fin 4) : Fin 8 := ⟨4 + r.val, by omega⟩
theorem osem_s : ∀ r : Fin 4, osem (sIx r) = .dma (sendS r) := by decide +kernel
theorem osem_v : ∀ r : Fin 4, osem (vIx r) = .dma (recvS r) := by decide +kernel
theorem send_mem (r : Fin 4) (c : Dev nD) : sendCell r c ∈ barCells ∪ scCells := by
  have h := sc_mem c (sIx r); rw [osem_s] at h; exact h
theorem recv_mem (r : Fin 4) (c : Dev nD) : recvCell r c ∈ barCells ∪ scCells := by
  have h := sc_mem c (vIx r); rw [osem_v] at h; exact h

/-- Eight things as four pairs. -/
theorem bigSep_pairs {M : Type} [URA M] (Φ : Fin 8 → sProp M) :
    bigSep Finset.univ Φ = bigSep Finset.univ fun r : Fin 4 => iprop(Φ (sIx r) ∗ Φ (vIx r)) := by
  rw [bigSep_univ_equiv (finSumFinEquiv (m := 4) (n := 4)) Φ, bigSep_univ_sum, bigSep_sep']
  rfl

/-- The launch element of the user's algebra: the pipeline's and the protocol's. -/
def u₀ : UU :=
  (Rounds.initOf (Pipeline.cells cfgs cellOf_inj) (Pipeline.launchToks cfgs cellOf_inj), launchOf barCells scCells talkToks)

/-- A resource kept whole on one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; exact if_neg (Finset.ne_of_mem_erase hc), BI.bigSep_emp_const]
  unfold onDev; rw [if_pos rfl]
  exact BI.equiv_iff.mp sep_emp

def G : Dev nD → sProp 𝕄 := onDev 0 (BI.own (ER (launchOf barCells scCells talkToks)))

/-! ## Dealing the tokens -/

/-- What every device may consult: the invariants under one choice of names, and that every barrier cell is open. -/
def records (κ : GSem nD τ sig → ℕ) : sProp 𝕄 :=
  iprop((bigSep (barCells ∪ scCells) fun g => cellInv ER (talkRd A) (κ g) g) ∗ bigSep barCells fun g => reached ER g 0)

instance records_persistent (κ : GSem nD τ sig → ℕ) : BI.Persistent (records A κ) := by unfold records; infer_instance

theorem inv_at (κ : GSem nD τ sig → ℕ) {g : GSem nD τ sig} (hg : g ∈ barCells ∪ scCells) : records A κ ⊢ (cellInv ER (talkRd A) (κ g) g : sProp 𝕄) :=
  sep_elim_left.trans (bigSep_elim hg)
theorem reached_at (κ : GSem nD τ sig → ℕ) (c : Dev nD) : records A κ ⊢ (reached ER (barCell c) 0 : sProp 𝕄) :=
  sep_elim_right.trans (bigSep_elim (Finset.mem_map_of_mem barEmb (Finset.mem_univ c)))

/-- The tokens device `c` pays with in step `r`. -/
def paysR (r : Fin 4) (c : Dev nD) : sProp 𝕄 :=
  iprop(dutyTok ER (barCell (pr r c)) 0 r ∗ dutyTok ER (sendCell r c) 0 0 ∗ dutyTok ER (recvCell r (pr r c)) 0 0)
/-- The tokens of the duties at device `c`'s own cells of step `r`. -/
def toksR (r : Fin 4) (c : Dev nD) : sProp 𝕄 :=
  iprop(dutyTok ER (barCell c) 0 r ∗ dutyTok ER (sendCell r c) 0 0 ∗ dutyTok ER (recvCell r c) 0 0)
/-- The rights to open the two cells of step `r`. -/
def opensR (r : Fin 4) (c : Dev nD) : sProp 𝕄 := iprop(openTok ER (sendCell r c) ∗ openTok ER (recvCell r c))
/-- The credit on the receive cell of step `r`. -/
def credR (r : Fin 4) (c : Dev nD) : sProp 𝕄 := cred (tallyAt (recvCell r c) () N)

theorem ghostR_intro (κ : GSem nD τ sig → ℕ) (r : Fin 4) (c : Dev nD) :
    iprop(records A κ ∗ (opensR r c ∗ paysR r c ∗ credR r c)) ⊢ (ghostR A κ r c : sProp 𝕄) := by
  unfold ghostR invsR opensR paysR credR
  iintro ⟨#HR, ⟨HoS, HoV⟩, ⟨HtB, HtS, HtV⟩, Hcr⟩
  isplitr
  · isplitr; · iapply (inv_at A κ (send_mem r c)) $$ HR
    isplitr; · iapply (inv_at A κ (recv_mem r c)) $$ HR
    isplitr; · iapply (inv_at A κ (bar_mem (pr r c))) $$ HR
    iapply (inv_at A κ (recv_mem r (pr r c))) $$ HR
  isplitl [HoS]; · iexact HoS
  isplitl [HoV]; · iexact HoV
  isplitr; · iapply (reached_at A κ (pr r c)) $$ HR
  isplitl [HtB]; · iexact HtB
  isplitl [HtV]; · iexact HtV
  isplitl [HtS] <;> iassumption

theorem join {I : Type} [DecidableEq I] {s : Finset I} {Φ Ψ : I → sProp (MT nD τ sig Unit (Elt F) ℕ UU ℕ)} :
    iprop(bigSep s Φ ∗ bigSep s Ψ) ⊢ bigSep s fun i => iprop(Φ i ∗ Ψ i) := Entails.of_eq (bigSep_sep' ..).symm
theorem part {I : Type} [DecidableEq I] {s : Finset I} {Φ Ψ : I → sProp (MT nD τ sig Unit (Elt F) ℕ UU ℕ)} :
    (bigSep s fun i => iprop(Φ i ∗ Ψ i)) ⊢ iprop(bigSep s Φ ∗ bigSep s Ψ) := Entails.of_eq (bigSep_sep' ..)

/-- What stays with device `c`. -/
def linear (c : Dev nD) : sProp 𝕄 :=
  iprop((atPos ER (barCell c) 0 ∅ 0 ∗ cred (tallyAt (barCell c) () 4))
    ∗ (bigSep Finset.univ fun r => opensR (F := F) r c) ∗ (bigSep Finset.univ fun r => paysR (F := F) r c) ∗ bigSep Finset.univ fun r => credR (F := F) r c)

theorem ghost_intro (κ : GSem nD τ sig → ℕ) (c : Dev nD) : iprop(records A κ ∗ linear c) ⊢ (ghost A c : sProp 𝕄) := by
  unfold linear ghost ghostB
  iintro ⟨#HR, ⟨Hat, Hcr⟩, Ho, Hp, Hc⟩
  iexists κ
  isplitl [Hat Hcr]
  · isplitr; · iapply (inv_at A κ (bar_mem c)) $$ HR
    isplitl [Hat] <;> iassumption
  iapply (bigSep_with_persistent (R := records A κ) (Φ := fun r => iprop(opensR r c ∗ paysR r c ∗ credR r c)) fun r _ => ghostR_intro A κ r c)
  isplitr; · iexact HR
  iapply join; isplitl [Ho]; · iexact Ho
  iapply join; isplitl [Hp]; · iexact Hp
  iexact Hc

theorem opens_eq : bigSep scCells (fun g => (openTok ER g : sProp 𝕄)) = bigSep Finset.univ fun c : Dev nD => bigSep Finset.univ fun r => opensR (F := F) r c := by
  rw [bigSep_map, bigSep_univ_prod]
  refine bigSep_congr fun c _ => ?_
  rw [bigSep_pairs]
  refine bigSep_congr fun r _ => ?_
  show iprop(openTok ER ((c : Thread nD τ), osem (sIx r)) ∗ openTok ER ((c : Thread nD τ), osem (vIx r))) = _
  rw [osem_s, osem_v]; rfl

theorem toks_eq : bigSep talkToks (fun x => (dutyTok ER x.1 x.2.1 x.2.2 : sProp 𝕄))
    = bigSep Finset.univ fun c : Dev nD => bigSep Finset.univ fun r => toksR (F := F) r c := by
  rw [bigSep_map, bigSep_univ_prod]
  refine bigSep_congr fun c _ => ?_
  unfold toksR
  rw [bigSep_univ_sum, bigSep_sep', bigSep_pairs]
  refine congrArg (fun X : sProp 𝕄 => iprop((bigSep Finset.univ fun r => dutyTok ER (barCell c) 0 r) ∗ X)) (bigSep_congr fun r _ => ?_)
  show iprop(dutyTok ER ((c : Thread nD τ), osem (sIx r)) 0 0 ∗ dutyTok ER ((c : Thread nD τ), osem (vIx r)) 0 0) = _
  rw [osem_s, osem_v]

/-- Going to the partner, as a permutation of the pairs of a device and a step. -/
def prE : Dev nD × Fin 4 ≃ Dev nD × Fin 4 where
  toFun p := (pr p.2 p.1, p.2)
  invFun p := (pr p.2 p.1, p.2)
  left_inv p := Prod.ext (pr_pr p.2 p.1) rfl
  right_inv p := Prod.ext (pr_pr p.2 p.1) rfl

/-- The barrier and receive tokens handed to the partners. -/
theorem toks_around : (bigSep Finset.univ fun c : Dev nD => bigSep Finset.univ fun r => (toksR (F := F) r c : sProp 𝕄))
    = bigSep Finset.univ fun c : Dev nD => bigSep Finset.univ fun r => paysR r c := by
  rw [← bigSep_univ_prod (fun p : Dev nD × Fin 4 => (toksR p.2 p.1 : sProp 𝕄)), ← bigSep_univ_prod (fun p : Dev nD × Fin 4 => (paysR p.2 p.1 : sProp 𝕄))]
  unfold toksR paysR
  rw [bigSep_sep', bigSep_sep', bigSep_sep', bigSep_sep',
    bigSep_univ_equiv prE (fun p : Dev nD × Fin 4 => (dutyTok ER (barCell p.1) 0 p.2 : sProp 𝕄)),
    bigSep_univ_equiv prE (fun p : Dev nD × Fin 4 => (dutyTok ER (recvCell p.2 p.1) 0 0 : sProp 𝕄))]
  rfl

/-! ## The launch credit -/

theorem recv_ne_bar (r : Fin 4) : (SemLoc.dma (recvS r) : SemLoc sig) ≠ .reg barrier0 := fun h => by cases h

/-- An amount at the partner's cell, read at a device's. -/
theorem at_partner (r : Fin 4) (s s' : SemLoc sig) (n : ℕ) (d c : Dev nD) :
    tallyAt (((pr r d : Dev nD) : Thread nD τ), s) () n ((c : Thread nD τ), s') () = if s = s' ∧ d = pr r c then n else 0 := by
  rw [tallyAt_apply]
  by_cases h : s = s' ∧ d = pr r c
  · obtain ⟨rfl, rfl⟩ := h
    rw [pr_pr, if_pos ⟨rfl, rfl⟩, if_pos ⟨rfl, rfl⟩]
  · refine (if_neg fun hh => h ⟨(congrArg Prod.snd hh.1).symm, ?_⟩).trans (if_neg h).symm
    have : c = pr r d := congrArg (fun g : GSem nD τ sig => g.1.1) hh.1
    rw [this, pr_pr]

theorem dueFrom_at (d : Dev nD) (g : GSem nD τ sig) :
    dueFrom d 0 g () = tallyAt (recvCell 3 (pr 3 d)) () N g () + tallyAt (recvCell 2 (pr 2 d)) () N g () + tallyAt (recvCell 1 (pr 1 d)) () N g ()
      + tallyAt (recvCell 0 (pr 0 d)) () N g () := rfl
theorem O₀_at (d : Dev nD) (g : GSem nD τ sig) :
    O₀ d g () = dueFrom d 0 g () + barDue 3 d g () + barDue 2 d g () + barDue 1 d g () + barDue 0 d g () := rfl

theorem owed_bar (d c : Dev nD) : O₀ d (barCell c) () = ∑ r : Fin 4, if d = pr r c then 1 else 0 := by
  rw [O₀_at, dueFrom_at]
  simp only [at_partner, recv_ne_bar, false_and, if_false, true_and, Fin.sum_univ_four]
  omega

theorem recvS_inj : ∀ r r' : Fin 4, (SemLoc.dma (recvS r) : SemLoc sig) = .dma (recvS r') ↔ r = r' := by decide +kernel

theorem owed_recv (r : Fin 4) (d c : Dev nD) : O₀ d (recvCell r c) () = if d = pr r c then N else 0 := by
  rw [O₀_at, dueFrom_at]
  simp only [at_partner, (recv_ne_bar r).symm, false_and, if_false, recvS_inj]
  match r with
  | 0 => simp
  | 1 => simp
  | 2 => simp
  | 3 => simp

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  simp only [Finset.sum_ite_eq', Finset.mem_univ, if_true]
  rfl
theorem launch_recv (r : Fin 4) (c : Dev nD) :
    tallyOn (recvCell r c) (launchCredit (Pipeline.owing O₀) 0 (recvCell r c)) = (tallyAt (recvCell r c) () N : CellTallies nD τ sig Unit) := by
  unfold tallyAt; refine congrArg _ (Finsupp.ext fun u => ?_); cases u
  rw [Pipeline.launchCredit_owing, Finsupp.single_eq_same, Finset.sum_congr rfl fun d _ => owed_recv r d c, Finset.sum_ite_eq' Finset.univ (pr r c) fun _ => N,
    if_pos (Finset.mem_univ _)]

/-- The receive semaphores among a device's. -/
def recvEmb : Fin 4 ↪ SemLoc sig := ⟨fun r => .dma (recvS r), fun r r' h => (recvS_inj r r').mp h⟩

theorem creds (c : Dev nD) :
    (Pipeline.launchCred O₀ c : sProp 𝕄) ⊢ iprop(cred (tallyAt (barCell c) () 4) ∗ bigSep Finset.univ fun r => credR (F := F) r c) := by
  unfold Pipeline.launchCred
  rw [bigSep_univ_at _ (SemLoc.reg barrier0), launch_bar]
  refine sep_mono_right ((bigSep_subset (t := Finset.univ.map recvEmb) fun s hs => ?_).trans ?_)
  · obtain ⟨r, -, rfl⟩ := Finset.mem_map.mp hs
    exact Finset.mem_erase.mpr ⟨recv_ne_bar r, Finset.mem_univ _⟩
  · rw [bigSep_map]
    refine bigSep_mono fun r _ => ?_
    show (cred (tallyOn (recvCell r c) (launchCredit (Pipeline.owing O₀) 0 (recvCell r c))) : sProp 𝕄) ⊢ credR r c
    rw [launch_recv]; exact BI.Entails.refl _

end Cert.KernelIdeal.Talk

end
-- ==== Proof.RunIdeal.lean ====
/-
The run of @main from any memory: it ends, every argument as launched, the result buffer holding what the host reshapes out
of the region's result, every semaphore counter at zero.
-/
module

public import proofs.«01_k».proof.Proof.LaunchIdeal
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The thread states between the items -/

/-- What the region leaves in a buffer. -/
def outs : Outs (F := F) := fun _ r c => Vout (V1 m) c r

theorem V2_eq (c : Dev nD) : V2 m (outs m) c = Vout (V1 m) c := by
  show Function.update (V1 m c) main_v22 (Vout (V1 m) c main_v22) = _
  rw [Vout_res]; rfl

/-- What rides beside the buffers: before the region the ghost state and the dues; after it, the barrier counter at zero. -/
def E : Fin 2 → Dev nD → sProp 𝕄
  | 0, c => iprop(Tk (V1 m) c ∗ (∃ r, prngReg c r) ∗ ∃ W, owes (c : Thread nD τ) (O₀ c) W)
  | 1, c => iprop(semVal (barCell c) 0 ∗ ∃ W, owes (c : Thread nD τ) (0 : CellTallies nD τ sig Unit) W)

theorem arr_sub : Pipeline.arrRefs (τ := τ) spec0 ⊆ Pipeline.ucRefs τ sig := Pipeline.arrRefs_sub_ucRefs spec0 (by decide)

theorem held_others (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split _ arr_sub W

theorem reg_pre (c : Dev nD) :
    iprop(StableHlo.held (c : Thread nD τ) (Pipeline.ucRefs τ sig) (V1 m c) ∗ E m 0 c) ⊢ ((reg (V1 m)).pre c : sProp 𝕄) := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk (V1 m) c ∗ ∃ Wd, owes (c : Thread nD τ) (0 + O₀ c) Wd)
  rw [held_others, zero_add]
  unfold E
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) :
    ((reg (V1 m)).post c : sProp 𝕄) ⊢ iprop(StableHlo.held (c : Thread nD τ) (Pipeline.ucRefs τ sig) (V2 m (outs m) c) ∗ E m 1 c) := by
  show iprop(StableHlo.held (c.tc : Thread nD τ) (Pipeline.arrRefs (τ := τ) spec0) (Vout (V1 m) c) ∗ (∃ r, prngReg c r)
    ∗ (StableHlo.held (c.tc : Thread nD τ) others (Vout (V1 m) c) ∗ emp) ∗ Yk c ∗ ∃ Wd, owes (c : Thread nD τ) (0 : CellTallies nD τ sig Unit) Wd) ⊢ _
  rw [held_others, V2_eq]
  unfold E Yk
  iintro ⟨Ha, -, ⟨Ho, -⟩, Hb, HO⟩
  isplitl [Ha Ho]
  · isplitl [Ha]; · iexact Ha
    iexact Ho
  isplitl [Hb]; · iexact Hb
  iexact HO

/-! ## The first thread state -/

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V3 m (outs m) c) ∗ semVal (barCell c) 0)

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem unscoped_eq : ∀ sm : SemLoc sig, sm.isScoped .tc = false → sm = .reg barrier0 := by decide

/-- What of a device's launch holdings is not the protocol's. -/
def bundle (c : Dev nD) : sProp 𝕄 :=
  iprop(StableHlo.held (c : Thread nD τ) (Pipeline.ucRefs τ sig) (V0 m c) ∗ owes (c : Thread nD τ) (O₀ c) ∅ ∗ ∃ r, prngReg c r)

theorem T₀_intro (κ : GSem nD τ sig → ℕ) (c : Dev nD) :
    iprop(records (accs (initOf (V1 m))) κ ∗ (linear c ∗ bundle m c)) ⊢ (T₀ m c : sProp 𝕄) := by
  unfold bundle T₀ E Tk
  iintro ⟨#HR, Hl, Hh, HO, Hp⟩
  isplitl [Hh]; · iexact Hh
  isplitl [Hl]
  · iapply (ghost_intro _ κ c)
    isplitr; · iexact HR
    iexact Hl
  isplitl [Hp]; · iexact Hp
  iexists ∅; iexact HO

/-- The launch: the barrier cells get their counters, the others wait for the region; everything is dealt at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (cred (tallyAt (barCell c) () 4) ∗ (bigSep Finset.univ fun r => credR (F := F) r c)) ∗ (semVal (barCell c) 0 ∗ G c)) : sProp 𝕄) := by
    rw [show (unscopedBufs c (fun b => m ((c : Thread nD τ).loc b)) : sProp 𝕄) = StableHlo.held (c : Thread nD τ) (Pipeline.ucRefs τ sig) (V0 m c)
        from Pipeline.unscopedBufs_held c (V0 m c), unscopedSems0_eq]
    unfold bundle
    iintro ⟨Hh, Hb, HO, Hcr, Hp, HG⟩
    ihave Hc := (creds (F := F) c) $$ Hcr
    isplitl [Hh HO Hp]
    · isplitl [Hh]; · iexact Hh
      isplitl [HO]; · iexact HO
      iexists (ρ c); iexact Hp
    isplitl [Hc]; · iexact Hc
    isplitl [Hb] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hg : bigSep Finset.univ G ⊢ (BI.own (ER (launchOf barCells scCells talkToks)) : sProp 𝕄) :=
    Entails.of_eq (bigSep_onDev (F := F) 0 (BI.own (ER (launchOf barCells scCells talkToks))))
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (cred (tallyAt (barCell c) () 4) ∗ (bigSep Finset.univ fun r => credR (F := F) r c))
          ∗ (semVal (barCell c) 0 ∗ G c)) : sProp 𝕄) := bigSep_mono fun c _ => hcore c
  iintro ⟨H, -⟩
  ihave H := hall $$ H
  ihave H := part $$ H; icases H with ⟨HB, H⟩
  ihave H := part $$ H; icases H with ⟨Hc, H⟩
  ihave H := part $$ H; icases H with ⟨Hv, HG⟩
  ihave H := part $$ Hc; icases H with ⟨Hcb, Hcr⟩
  ihave Hu := hg $$ HG
  imod (Rounds.fund_launch ER (talkRd (accs (initOf (V1 m)))) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (accs (initOf (V1 m))) κ) (Φ := fun c => iprop(linear c ∗ bundle m c)) fun c _ => T₀_intro m κ c)
  isplitr
  · unfold records
    isplitr; · iexact Hinv
    iexact Hr
  iapply join
  isplitr [HB]
  · unfold linear
    iapply join
    isplitl [Hat Hcb]
    · iapply join
      isplitl [Hat]; · iapply hat $$ Hat
      iexact Hcb
    iapply join
    isplitl [Hopen]; · iapply (Entails.of_eq (opens_eq (F := F))) $$ Hopen
    iapply join
    isplitl [Htok]
    · iapply (Entails.of_eq (toks_around (F := F)))
      iapply (Entails.of_eq (toks_eq (F := F))) $$ Htok
    iexact Hcr
  · iexact HB

/-! ## The run -/

/-- What a device's memory holds at the end. -/
structure Ends (s : MemSt nD τ sig (Elt F)) (c : Dev nD) : Prop where
  arg0 : s.mem ((c.tc : Thread nD τ).loc main_arg0) = m ((c.tc : Thread nD τ).loc main_arg0)
  arg1 : s.mem ((c.tc : Thread nD τ).loc main_arg1) = m ((c.tc : Thread nD τ).loc main_arg1)
  arg2 : s.mem ((c.tc : Thread nD τ).loc main_arg2) = m ((c.tc : Thread nD τ).loc main_arg2)
  res : s.mem ((c.tc : Thread nD τ).loc main_v23) = V3 m (outs m) c main_v23

set_option backward.isDefEq.respectTransparency.types false in
/-- From any memory with zero counters every weakly fair execution of @main ends, as `Ends` says, its counters at zero. -/
theorem run_main : θ_run defs (onTc (τ := τ) (main (F := F))) ⟨m, fun _ => 0, ρ⟩
    (fun r => (∀ c : Dev nD, Ends m r.2 c) ∧ r.2.sem = fun _ => 0) := by
  refine Pipeline.θ_run_regions_kit_dev_sems (pcfgs (F := F)) adm (pdats (V1 m)) () cellOf_inj EP defs₀ 𝒱₀ L lv m ρ main
    (segs m (outs m) 𝒱₀ L lv (E m) () (pdats (V1 m)) (reg (V1 m)))
    (fun c Q => by
      rewrite [main_chain c, Pipeline.Seg.run_eq_chain,
        show (segs m (outs m) 𝒱₀ L lv (E m) () (pdats (V1 m)) (reg (V1 m)) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne G u₀ ?_ (T₀ m) (Tₙ m) (fun c => ⟨.rfl, reg_pre m c, reg_post m c, ?_⟩) (init m ρ)
    (fun c s => Ends m s c ∧ s.sem (barCell c) = 0) (fun c s' => ?_)
    (fun s h hs => ⟨fun c => (h c).1, sem_eq_zero hs fun c sm hsm => by obtain rfl := unscoped_eq sm hsm; exact (h c).2⟩)
  · unfold u₀ G
    iintro Hu
    ihave H := (ownU_pair _ _) $$ Hu
    icases H with ⟨HP, HX⟩
    imodintro
    isplitl [HP]; · iexact HP
    rw [bigSep_onDev]; iexact HX
  · show iprop(StableHlo.held (c : Thread nD τ) (Pipeline.ucRefs τ sig) (V3 m (outs m) c) ∗ E m 1 c) ⊢ _
    unfold E
    iintro ⟨Hh, Hb, HO⟩
    isplitr [HO]
    · isplitl [Hh] <;> iassumption
    · iexact HO
  · unfold Tₙ StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        h (Proc.devRef .tc main_v23) (Finset.mem_filter.mpr ⟨StableHlo.devRef_mem_tcRefs main_v23, by decide⟩)⟩, by simpa using hb⟩
    · iexact HSI

end Cert.KernelIdeal.Talk

end
-- ==== Proof.TileIdeal.lean ====
/-
What one tile of the weights adds to the two running sums, at one row: the exponentials of the tile's logits, and the
logit of the row's label where the label falls in the tile.
-/
module

public import proofs.«01_k».proof.Proof.RegionIdeal
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal.Laws
public import Idealize.ShloMosaic.Lib.IdealHost
public import Idealize.ShloMosaic.Lib.KernelVsHost

@[expose] public section

set_option maxRecDepth 16384

noncomputable section

namespace Cert.KernelIdeal.Talk

open Idealize.ShloMosaic Idealize.ShloMosaic.ValueIdx
open Cert.KernelIdeal Cert.KernelIdeal.Gen
open scoped BigOperators

/-! ## The payloads at one element -/

/-- The tile's product: row `i` of the rows against column `j` of the tile. -/
theorem prod_apply (x : Vec Ideal S128x2048 .f32) (w : Vec Ideal S2048x1024 .f32) (i : Fin 128) (j : Fin 1024) :
    k0_pay12 (F := Ideal) x w (ix2 i j) = ∑ k : Fin 2048, (x (ix2 i k) : EReal) * w (ix2 k j) := by
  unfold k0_pay12
  simp only [shapeCast_self]
  refine (Ideal.matmul_plain_apply (M := 128) (K := 2048) (N := 1024) (φ₁ := .f32) (φ₂ := .f32) none x w
    (constant (F := Ideal) S128x1024 .f32 0x00000000#32) i j).trans ?_
  show Ideal.ofBits .f32 0x00000000#32 + _ = _
  rw [Ideal.ofBits_zero_f32, zero_add]

/-- The sum along a tile's row. -/
theorem rowSum_apply (v : FVec Ideal S128x1024 .f32) (i : Fin 128) :
    multiReduction .add [1] S128 v 0x00000000#32 reduces_S128x1024_S128 (.inl rfl) rfl (ix1 i) = ∑ j : Fin 1024, (v (ix2 i j) : EReal) := by
  refine (Ideal.multiReduction_add_single v _ reduces_S128x1024_S128 (.inl rfl) rfl (ix1 i)).trans ?_
  refine Finset.sum_congr rfl fun k _ => congrArg v (funext fun a => Fin.ext ?_)
  match a with
  | ⟨0, _⟩ => rfl
  | ⟨1, _⟩ => rfl

/-- The first sum takes in the exponentials of the tile's row. -/
theorem sNext_apply (x : Vec Ideal S128x2048 .f32) (w : Vec Ideal S2048x1024 .f32) (s : Vec Ideal S1x128 .f32) (i : Fin 128) :
    sNext x w s (ix2 (0 : Fin 1) i) = (s (ix2 (0 : Fin 1) i) : EReal) + ∑ j : Fin 1024, Ideal.exp (k0_pay12 (F := Ideal) x w (ix2 i j)) := by
  show k0_pay13 (F := Ideal) x w s _ = _
  unfold k0_pay13
  refine (shapeCast_a_1a_apply _ _ _ _).trans ?_
  show (shapeCast S128 s shapeCasts_S1x128_S128 (ix1 i) : EReal) + _ = _
  rw [show shapeCast S128 s shapeCasts_S1x128_S128 (ix1 i) = s (ix2 (0 : Fin 1) i) from shapeCast_1a_a_apply _ _ _, rowSum_apply]
  rfl

/-- The labels as a column. -/
theorem labCol_apply (lab : Vec Ideal S1x128 .i32) (i : Fin 128) (u : Fin 1) :
    k0_pay15 (F := Ideal) lab (ix2 i u) = lab (ix2 (0 : Fin 1) i) := by
  unfold k0_pay15
  exact (shapeCast_a_a1_apply _ _ _ _).trans (shapeCast_1a_a_apply _ _ _)

/-- The class number of the tile's first column. -/
theorem base_eq : ∀ (n : Fin 16) (c : Dev nD),
    Scalar.addi (Scalar.muli (Scalar.remsi (Scalar.divsi (Dev.word c) 8#32) 2#32) 16384#32)
      (Scalar.muli (BitVec.ofNat 32 ((grid0.coords (pt n.val)) 0).val) 1024#32) = BitVec.ofNat 32 (16384 * (c.val / 8) + 1024 * n.val) := by
  decide +kernel

/-- The class numbers of a tile's columns. -/
theorem cls_apply (n : ℕ) (hn : n < 16) (c : Dev nD) (i : Fin 128) (j : Fin 1024) :
    k0_pay14 (grid0.coords (pt n)) c (ix2 i j) = BitVec.ofNat 32 (16384 * (c.val / 8) + 1024 * n + j.val) := by
  have hb := base_eq ⟨n, hn⟩ c
  unfold k0_pay14
  show IntOp.addi _ _ = _
  rw [broadcast_apply, hb, iota_single_apply]
  show BitVec.ofNat 32 _ + BitVec.ofNat 32 j.val = _
  rw [← BitVec.ofNat_add]

/-- The second sum takes in the logit of the row's label, if the label is in the tile. -/
theorem lNext_apply (n : ℕ) (hn : n < 16) (c : Dev nD) (x : Vec Ideal S128x2048 .f32) (w : Vec Ideal S2048x1024 .f32)
    (lab : Vec Ideal S1x128 .i32) (l : Vec Ideal S1x128 .f32) (i : Fin 128) :
    lNext (grid0.coords (pt n)) c x w lab l (ix2 (0 : Fin 1) i) = (l (ix2 (0 : Fin 1) i) : EReal)
      + ∑ j : Fin 1024, if 16384 * (c.val / 8) + 1024 * n + j.val = (lab (ix2 (0 : Fin 1) i)).toNat then
          (k0_pay12 (F := Ideal) x w (ix2 i j) : EReal) else 0 := by
  show k0_pay1 (F := Ideal) _ _ _ l _ = _
  unfold k0_pay1
  refine (shapeCast_a_1a_apply _ _ _ _).trans ?_
  show (shapeCast S128 l shapeCasts_S1x128_S128 (ix1 i) : EReal) + _ = _
  rw [show shapeCast S128 l shapeCasts_S1x128_S128 (ix1 i) = l (ix2 (0 : Fin 1) i) from shapeCast_1a_a_apply _ _ _, rowSum_apply]
  congr 1
  refine Finset.sum_congr rfl fun j _ => ?_
  show Scalar.select (IntOp.cmpi .eq (k0_pay14 (grid0.coords (pt n)) c (ix2 i j))
    (broadcastTo S128x1024 (k0_pay15 (F := Ideal) lab) broadcasts_S128x1_S128x1024 (ix2 i j))) (k0_pay12 (F := Ideal) x w (ix2 i j))
    (Ideal.ofBits .f32 0x00000000#32) = _
  rw [cls_apply n hn, broadcastTo_apply _ _ (ix2 i j) (ix2 i (0 : Fin 1)) (fun a => by match a with | ⟨0, _⟩ => rfl | ⟨1, _⟩ => rfl),
    labCol_apply, Ideal.ofBits_zero_f32]
  have hlt : 16384 * (c.val / 8) + 1024 * n + j.val < 2 ^ 32 := by
    have := j.isLt; have := c.isLt; change c.val < 16 at this; omega
  have hiff : BitVec.ofNat 32 (16384 * (c.val / 8) + 1024 * n + j.val) = lab (ix2 (0 : Fin 1) i)
      ↔ 16384 * (c.val / 8) + 1024 * n + j.val = (lab (ix2 (0 : Fin 1) i)).toNat := by
    rw [← BitVec.toNat_inj, BitVec.toNat_ofNat, Nat.mod_eq_of_lt hlt]
  by_cases h : BitVec.ofNat 32 (16384 * (c.val / 8) + 1024 * n + j.val) = lab (ix2 (0 : Fin 1) i)
  · rw [if_pos (hiff.mp h), h]
    simp [IntOp.cmpi, Scalar.select]
  · rw [if_neg (fun h' => h (hiff.mpr h'))]
    have hf : (BitVec.ofNat 32 (16384 * (c.val / 8) + 1024 * n + j.val) == lab (ix2 (0 : Fin 1) i)) = false := beq_eq_false_iff_ne.mpr h
    show (if BitVec.ofBool (BitVec.ofNat 32 (16384 * (c.val / 8) + 1024 * n + j.val) == lab (ix2 (0 : Fin 1) i)) = 1#1 then _ else _) = _
    rw [hf]; rfl

/-- Both sums start from zero. -/
theorem s0_apply (j : S1x128.Idx) : k0_pay10 (F := Ideal) j = (0 : EReal) := by
  unfold k0_pay10; simp only [shapeCast_self]; exact Ideal.ofBits_zero_f32
theorem l0_apply (j : S1x128.Idx) : k0_pay11 (F := Ideal) j = (0 : EReal) := by
  unfold k0_pay11; simp only [shapeCast_self]; exact Ideal.ofBits_zero_f32

end Cert.KernelIdeal.Talk
-- ==== Proof.SumIdeal.lean ====
/-
The two running sums after the tiles: sums over the classes the device holds.
-/
module

public import proofs.«01_k».proof.Proof.TileIdeal
public import Idealize.ShloMosaic.Lib.Pipeline.ValueKit

@[expose] public section

set_option maxRecDepth 16384

noncomputable section

namespace Cert.KernelIdeal.Talk

open Idealize.ShloMosaic hiding ix1 ix2 ix3
open Idealize.ShloMosaic.ValueIdx Idealize.ShloMosaic.TcCoe
open Cert.KernelIdeal Cert.KernelIdeal.Gen
open scoped BigOperators

variable (V : Dev nD → Valuation τ sig (Elt Ideal)) (c : Dev nD)

/-! ## The blocks -/

theorem x_index : ∀ n : Fin 16, win0_0.index (pt n.val) = ![0, 0] := by decide +kernel
theorem w_index : ∀ n : Fin 16, win0_1.index (pt n.val) = ![0, n.val] := by decide +kernel
theorem lab_index : ∀ n : Fin 16, win0_2.index (pt n.val) = ![0, 0] := by decide +kernel

/-- Every tile meets the same rows, -/
theorem xAt_apply (n : ℕ) (hn : n < 16) (i : Fin 128) (k : Fin 2048) : xAt V c (pt n) (ix2 i k) = V c main_v15 (ix2 i k) := by
  have e := x_index ⟨n, hn⟩
  show V c main_v15 (((cfg0.win 0).blk (pt n)).view.emb (ix2 i k)) = _
  congr 1
  blk_ext [e]
/-- the tile is the next 1024 columns of the weights, -/
theorem wAt_apply (n : ℕ) (hn : n < 16) (k : Fin 2048) (j : Fin 1024) :
    wAt V c (pt n) (ix2 k j) = V c main_arg1 (ix2 k (⟨1024 * n + j.val, by have := j.isLt; omega⟩ : Fin 16384)) := by
  have e := w_index ⟨n, hn⟩
  show V c main_arg1 (((cfg0.win 1).blk (pt n)).view.emb (ix2 k j)) = _
  congr 1
  blk_ext [e]
  show n * 1024 + j.val = 1024 * n + j.val
  omega
/-- and the labels stay. -/
theorem labAt_apply (n : ℕ) (hn : n < 16) (i : Fin 128) : labAt V c (pt n) (ix2 (0 : Fin 1) i) = V c main_v21 (ix2 (0 : Fin 1) i) := by
  have e := lab_index ⟨n, hn⟩
  show V c main_v21 (((cfg0.win 2).blk (pt n)).view.emb (ix2 (0 : Fin 1) i)) = _
  congr 1
  blk_ext [e]

/-! ## The sums -/

variable (lg : Fin 128 → ℕ → EReal)
  (hlg : ∀ (n : ℕ) (_ : n < 16) (i : Fin 128) (j : Fin 1024),
    k0_pay12 (F := Ideal) (xAt V c (pt n)) (wAt V c (pt n)) (ix2 i j) = lg i (16384 * (c.val / 8) + (1024 * n + j.val)))

include hlg

/-- The first sum after `n` tiles: the exponentials of the logits met so far. -/
theorem sAt_apply (i : Fin 128) : ∀ n ≤ 16, (sAt V c n (ix2 (0 : Fin 1) i) : EReal)
    = ∑ v ∈ Finset.range (1024 * n), Ideal.exp (lg i (16384 * (c.val / 8) + v)) := by
  intro n
  induction n with
  | zero => intro _; exact (s0_apply _).trans (Finset.sum_range_zero _).symm
  | succ n ih =>
    intro hn
    show (sNext (xAt V c (pt n)) (wAt V c (pt n)) (sAt V c n) (ix2 (0 : Fin 1) i) : EReal) = _
    rw [sNext_apply, ih (by omega), Nat.mul_succ, Finset.sum_range_add, Finset.sum_range (n := 1024)]
    congr 1
    exact Finset.sum_congr rfl fun j _ => by rw [hlg n (by omega)]

/-- The second sum after `n` tiles: the label's logit, if its class has been met. -/
theorem lAt_apply (i : Fin 128) : ∀ n ≤ 16, (lAt V c n (ix2 (0 : Fin 1) i) : EReal)
    = ∑ v ∈ Finset.range (1024 * n), if 16384 * (c.val / 8) + v = (V c main_v21 (ix2 (0 : Fin 1) i) : BitVec 32).toNat then
        lg i (16384 * (c.val / 8) + v) else 0 := by
  intro n
  induction n with
  | zero => intro _; exact (l0_apply _).trans (Finset.sum_range_zero _).symm
  | succ n ih =>
    intro hn
    show (lNext (grid0.coords (pt n)) c (xAt V c (pt n)) (wAt V c (pt n)) (labAt V c (pt n)) (lAt V c n) (ix2 (0 : Fin 1) i) : EReal) = _
    rw [lNext_apply n (by omega), ih (by omega), Nat.mul_succ, Finset.sum_range_add, Finset.sum_range (n := 1024)]
    congr 1
    exact Finset.sum_congr rfl fun j _ => by rw [hlg n (by omega), labAt_apply V c n (by omega), Nat.add_assoc]

end Cert.KernelIdeal.Talk
-- ==== Proof.ExchIdeal.lean ====
/-
The exchanges: after the four of them every device holds the sum of what all sixteen started with, and what a device starts
with is its two sums in its own row and zeros elsewhere.
-/
module

public import proofs.«01_k».proof.Proof.TileIdeal

@[expose] public section

set_option maxRecDepth 16384

noncomputable section

namespace Cert.KernelIdeal.Talk

open Idealize.ShloMosaic Idealize.ShloMosaic.ValueIdx Idealize.ShloMosaic.TcCoe
open Cert.KernelIdeal Cert.KernelIdeal.Gen
open scoped BigOperators

/-! ## The sum over the devices -/

theorem step_apply (a b : Vec Ideal S2x8x128 .f32) (p : S2x8x128.Idx) : (step a b p : EReal) = (a p : EReal) + b p := by
  unfold step; rw [shapeCast_self]; rfl

/-- A device and its partners of one exchange after another: everyone. -/
theorem partners_cover (f : Dev nD → EReal) (c : Dev nD) :
    (((f c + f (pr 0 c)) + (f (pr 1 c) + f (pr 0 (pr 1 c))))
      + ((f (pr 2 c) + f (pr 0 (pr 2 c))) + (f (pr 1 (pr 2 c)) + f (pr 0 (pr 1 (pr 2 c))))))
    + (((f (pr 3 c) + f (pr 0 (pr 3 c))) + (f (pr 1 (pr 3 c)) + f (pr 0 (pr 1 (pr 3 c)))))
      + ((f (pr 2 (pr 3 c)) + f (pr 0 (pr 2 (pr 3 c)))) + (f (pr 1 (pr 2 (pr 3 c))) + f (pr 0 (pr 1 (pr 2 (pr 3 c)))))))
      = ∑ d, f d := by
  have hs : (Finset.univ : Finset (Dev nD)) = {c, pr 0 c, pr 1 c, pr 0 (pr 1 c), pr 2 c, pr 0 (pr 2 c), pr 1 (pr 2 c), pr 0 (pr 1 (pr 2 c)),
      pr 3 c, pr 0 (pr 3 c), pr 1 (pr 3 c), pr 0 (pr 1 (pr 3 c)), pr 2 (pr 3 c), pr 0 (pr 2 (pr 3 c)), pr 1 (pr 2 (pr 3 c)),
      pr 0 (pr 1 (pr 2 (pr 3 c)))} := by revert c; decide +kernel
  rw [hs]
  rw [Finset.sum_insert, Finset.sum_insert, Finset.sum_insert, Finset.sum_insert, Finset.sum_insert, Finset.sum_insert, Finset.sum_insert,
    Finset.sum_insert, Finset.sum_insert, Finset.sum_insert, Finset.sum_insert, Finset.sum_insert, Finset.sum_insert, Finset.sum_insert,
    Finset.sum_insert, Finset.sum_singleton]
  · abel
  all_goals (revert c; decide +kernel)

/-- After the four exchanges a device holds the sum of what all devices started with. -/
theorem acc_apply (init : Dev nD → Vec Ideal S2x8x128 .f32) (c : Dev nD) (p : S2x8x128.Idx) :
    (accAt init 4 c p : EReal) = ∑ d, (init d p : EReal) := by
  have h1 (d : Dev nD) : (accAt init 1 d p : EReal) = (init d p : EReal) + init (pr 0 d) p := step_apply _ _ _
  have h2 (d : Dev nD) : (accAt init 2 d p : EReal) = (accAt init 1 d p : EReal) + accAt init 1 (pr 1 d) p := step_apply _ _ _
  have h3 (d : Dev nD) : (accAt init 3 d p : EReal) = (accAt init 2 d p : EReal) + accAt init 2 (pr 2 d) p := step_apply _ _ _
  have h4 (d : Dev nD) : (accAt init 4 d p : EReal) = (accAt init 3 d p : EReal) + accAt init 3 (pr 3 d) p := step_apply _ _ _
  simp only [h4, h3, h2, h1]
  exact partners_cover (fun d => (init d p : EReal)) c

/-! ## What a device starts with -/

theorem off1_eq : ∀ c : Dev nD, k0_off1 c = ![0, c.val % 8, 0] := by decide +kernel
theorem off2_eq : ∀ c : Dev nD, k0_off2 c = ![1, c.val % 8, 0] := by decide +kernel

/-- Where the element `x` of a stored row lies in the accumulator. -/
theorem row_emb (off : Fin 3 → ℕ) (inb : ∀ a, off a + S1x1x128.size a ≤ S2x8x128.size a) (x : S1x1x128.Idx) (a : Fin 3) :
    (((accM.access (Rect.unit (s := S2x8x128) off S1x1x128.size inb)).emb x : S2x8x128.Idx) a).val = off a + (x a).val := by
  show off a + 1 * (x a).val = _
  rw [Nat.one_mul]

/-- A row stored into the accumulator, read at an element: the row where it lies, the old contents elsewhere. -/
theorem store_row_apply (h : Fin 2) (r : Fin 8) (off : Fin 3 → ℕ) (hoff : off = ![h.val, r.val, 0])
    (inb : ∀ a, off a + S1x1x128.size a ≤ S2x8x128.size a) (f : Vec Ideal S2x8x128 .f32) (w : Vec Ideal S1x1x128 .f32)
    (g : Fin 2) (b : Fin 8) (i : Fin 128) :
    (accM.access (Rect.unit (s := S2x8x128) off S1x1x128.size inb)).write (Elt Ideal) f w Finset.univ (ix3 g b i)
      = if g = h ∧ b = r then w (ix3 (0 : Fin 1) (0 : Fin 1) i) else f (ix3 g b i) := by
  have h0 : off 0 = h.val := by rw [hoff]; rfl
  have h1 : off 1 = r.val := by rw [hoff]; rfl
  have h2 : off 2 = 0 := by rw [hoff]; rfl
  split
  · next hg =>
    have e : (accM.access (Rect.unit (s := S2x8x128) off S1x1x128.size inb)).emb (ix3 (0 : Fin 1) (0 : Fin 1) i) = ix3 g b i := by
      refine funext fun a => Fin.ext ((row_emb off inb _ a).trans ?_)
      match a with
      | ⟨0, _⟩ => show off 0 + 0 = g.val; rw [h0, hg.1]; rfl
      | ⟨1, _⟩ => show off 1 + 0 = b.val; rw [h1, hg.2]; rfl
      | ⟨2, _⟩ => show off 2 + i.val = i.val; rw [h2]; exact Nat.zero_add _
    have hw := View.write_emb_of_mem (v := accM.access (Rect.unit (s := S2x8x128) off S1x1x128.size inb)) (Val := Elt Ideal) f w
      (M := Finset.univ) (x := ix3 (0 : Fin 1) (0 : Fin 1) i) (Finset.mem_univ _)
    rw [e] at hw
    exact hw
  · next hg =>
    have hn : ix3 g b i ∉ (accM.access (Rect.unit (s := S2x8x128) off S1x1x128.size inb)).setOn Finset.univ := ?_
    · exact View.write_of_not_mem (v := accM.access (Rect.unit (s := S2x8x128) off S1x1x128.size inb)) (Val := Elt Ideal) f w Finset.univ hn
    intro hm
    apply hg
    obtain ⟨x, -, hx⟩ := Finset.mem_map.mp hm
    have e0 := (row_emb off inb x 0).symm.trans (congrArg Fin.val (congrFun hx 0))
    have e1 := (row_emb off inb x 1).symm.trans (congrArg Fin.val (congrFun hx 1))
    have x0 : (x 0).val < 1 := (x 0).isLt
    have x1 : (x 1).val < 1 := (x 1).isLt
    change off 0 + (x 0).val = g.val at e0
    change off 1 + (x 1).val = b.val at e1
    exact ⟨Fin.ext (by omega), Fin.ext (by omega)⟩

/-- What device `c` starts with: its two sums in row `c mod 8`, zeros elsewhere. -/
theorem start_apply (s l : Vec Ideal S1x128 .f32) (c : Dev nD) (g : Fin 2) (b : Fin 8) (i : Fin 128) :
    (startAcc s l c (ix3 g b i) : EReal) = if b.val = c.val % 8 then (if g = 0 then s (ix2 (0 : Fin 1) i) else l (ix2 (0 : Fin 1) i)) else 0 := by
  have hs : k0_pay5 (F := Ideal) s (ix3 (0 : Fin 1) (0 : Fin 1) i) = s (ix2 (0 : Fin 1) i) := by
    unfold k0_pay5; exact shapeCast_ab_1ab_apply _ _ _ _ _
  have hl : k0_pay6 (F := Ideal) l (ix3 (0 : Fin 1) (0 : Fin 1) i) = l (ix2 (0 : Fin 1) i) := by
    unfold k0_pay6; exact shapeCast_ab_1ab_apply _ _ _ _ _
  have hz : (k0_pay4 (F := Ideal) (ix3 g b i) : EReal) = 0 := by
    unfold k0_pay4; simp only [shapeCast_self]; exact Ideal.ofBits_zero_f32
  have hb : b = ⟨c.val % 8, Nat.mod_lt _ (by decide)⟩ ↔ b.val = c.val % 8 := Fin.ext_iff
  unfold startAcc
  rw [store_row_apply 1 ⟨c.val % 8, Nat.mod_lt _ (by decide)⟩ _ (off2_eq c), store_row_apply 0 ⟨c.val % 8, Nat.mod_lt _ (by decide)⟩ _ (off1_eq c),
    hs, hl]
  by_cases hbc : b.val = c.val % 8
  · rw [if_pos hbc]
    match g with
    | 0 => rw [if_neg (fun h => absurd h.1 (by decide)), if_pos ⟨rfl, hb.mpr hbc⟩, if_pos rfl]
    | 1 => rw [if_pos ⟨rfl, hb.mpr hbc⟩, if_neg (by decide)]
  · rw [if_neg hbc, if_neg (fun h => hbc (hb.mp h.2)), if_neg (fun h => hbc (hb.mp h.2))]
    exact hz

/-! ## What is written out -/

theorem half_emb (off : Fin 3 → ℕ) (inb : ∀ a, off a + S1x8x128.size a ≤ S2x8x128.size a) (a : Vec Ideal S2x8x128 .f32)
    (g : Fin 2) (hoff : off = ![g.val, 0, 0]) (b : Fin 8) (i : Fin 128) :
    accM.view.readAt (Elt Ideal) (Rect.unit (s := S2x8x128) off S1x8x128.size inb).toLoadRect a (ix3 (0 : Fin 1) b i) = a (ix3 g b i) := by
  subst hoff
  show a _ = a _
  refine congrArg a (funext fun x => Fin.ext ?_)
  match x with
  | ⟨0, _⟩ => show g.val + 1 * 0 = g.val; omega
  | ⟨1, _⟩ => show 0 + 1 * b.val = b.val; omega
  | ⟨2, _⟩ => show 0 + 1 * i.val = i.val; omega

/-- The logarithm of the first half less the second. -/
theorem outOf_apply (a : Vec Ideal S2x8x128 .f32) (b : Fin 8) (i : Fin 128) :
    (outOf a (ix2 b i) : EReal) = Ideal.log (a (ix3 (0 : Fin 2) b i)) - a (ix3 (1 : Fin 2) b i) := by
  unfold outOf k0_pay3
  show Ideal.log (shapeCast S8x128 _ shapeCasts_S1x8x128_S8x128 (ix2 b i)) - shapeCast S8x128 _ shapeCasts_S1x8x128_S8x128 (ix2 b i) = _
  rw [shapeCast_1ab_ab_apply, shapeCast_1ab_ab_apply, half_emb ![0, 0, 0] _ a 0 rfl, half_emb ![1, 0, 0] _ a 1 rfl]

end Cert.KernelIdeal.Talk
-- ==== Proof.HostIdeal.lean ====
/-
What the host puts in front of the kernel: each device's 128 rows of the tokens and their labels.
-/
module

public import proofs.«01_k».proof.Proof.RunIdeal
public import Idealize.ShloMosaic.Lib.DynamicIndex
public import Idealize.ShloMosaic.Lib.ValueLayout

@[expose] public section

set_option maxRecDepth 16384

noncomputable section

namespace Cert.KernelIdeal.Talk

open Idealize.ShloMosaic hiding ix1 ix2 ix3
open Idealize.ShloMosaic.ValueIdx Idealize.ShloMosaic.TcCoe
open Cert.KernelIdeal Cert.KernelIdeal.Gen

variable {F : FTy → Type} [FloatOps F] (m : (ℓ : Loc nD τ sig) → Buf (Elt F) ℓ)

/-- The first row of device `c`'s tokens, as the host computes it. -/
def firstRow (c : Dev nD) : IVec S_ 32 :=
  let d4 : IVec S_ 32 := Host.remui (Host.divui (constantI S_ 32 (Dev.word c)) (constantI S_ 32 4#32)) (constantI S_ 32 2#32)
  let d8 : IVec S_ 32 := Host.remui (Host.divui (constantI S_ 32 (Dev.word c)) (constantI S_ 32 1#32)) (constantI S_ 32 4#32)
  let r : IVec S_ 32 := muli (addi (muli d4 (constantI S_ 32 4#32)) d8) (constantI S_ 32 128#32)
  select (cmpi .slt r (constantI S_ 32 0#32)) (addi r (constantI S_ 32 1024#32)) r

theorem firstRow_val : ∀ c : Dev nD, (firstRow c (Shape.Idx.first h_S_)).toInt = ((128 * (c.val % 8) : ℕ) : ℤ) := by
  decide +kernel

set_option maxHeartbeats 2000000 in
theorem rows_eq (c : Dev nD) : V1 m c main_v15 = Host.dynamicSlice S128x2048 (m ((c.tc : Thread nD τ).loc main_arg0))
    (fun k => ((![firstRow c, constantI S_ 32 0#32] : Fin 2 → IVec S_ 32) k (Shape.Idx.first h_S_)).toInt) sliceFits_S1024x2048_S128x2048 := by
  show StableHlo.after (hostOps0 c) (V0 m c) main_v15 = _
  after_results_simp
  refine congrArg (fun st => Host.dynamicSlice S128x2048 _ st _) (funext fun k => ?_)
  fin_cases k
  · simp only [Fin.zero_eta, Matrix.cons_val_zero]
    after_results_simp
    rfl
  · after_results_simp
    rfl

set_option maxHeartbeats 2000000 in
theorem labs_eq (c : Dev nD) : V1 m c main_v21 = shapeCast S1x128 (Host.dynamicSlice S128 (m ((c.tc : Thread nD τ).loc main_arg2))
    (fun k => ((![firstRow c] : Fin 1 → IVec S_ 32) k (Shape.Idx.first h_S_)).toInt) sliceFits_S1024_S128) shapeCasts_S128_S1x128 := by
  show StableHlo.after (hostOps0 c) (V0 m c) main_v21 = _
  after_results_simp
  refine congrArg (fun st => shapeCast S1x128 (Host.dynamicSlice S128 _ st _) _) (funext fun k => ?_)
  fin_cases k
  simp only [Fin.zero_eta, Matrix.cons_val_zero]
  after_results_simp
  rfl

theorem w_eq (c : Dev nD) : V1 m c main_arg1 = m ((c.tc : Thread nD τ).loc main_arg1) := by
  rw [V1_of m c main_arg1 (by decide)]

theorem res_eq (c : Dev nD) (W : Valuation τ sig (Elt F)) : StableHlo.after (hostOps1 (F := F)) W main_v23 = shapeCast S1024 (W main_v22) shapeCasts_S8x128_S1024 := by
  after_results_simp
  rfl

/-- The row of the tokens that is row `i` of device `c`'s. -/
def rowOf (c : Dev nD) (i : Fin 128) : Fin 1024 := ⟨128 * (c.val % 8) + i.val, by omega⟩

/-- Device `c`'s tokens are rows 128·(c mod 8), …, -/
theorem rows_apply (c : Dev nD) (i : Fin 128) (k : Fin 2048) :
    V1 m c main_v15 (ix2 i k) = m ((c.tc : Thread nD τ).loc main_arg0) (ix2 (rowOf c i) k) := by
  have hoff : S1024x2048.Slices ![128 * (c.val % 8), 0] S128x2048 := by
    have h : ∀ r : Fin 8, S1024x2048.Slices ![128 * r.val, 0] S128x2048 := by decide
    exact h ⟨c.val % 8, Nat.mod_lt _ (by decide)⟩
  rw [rows_eq, Host.dynamicSlice_eq_extractStridedSlice _ _ _ _ _ hoff (fun a => by
    match a with
    | ⟨0, _⟩ => exact firstRow_val c
    | ⟨1, _⟩ => rfl)]
  exact extractStridedSlice_apply _ _ _ _ _ (fun a => by
    match a with
    | ⟨0, _⟩ => rfl
    | ⟨1, _⟩ => exact (Nat.zero_add _).symm)
/-- and so are its labels. -/
theorem labs_apply (c : Dev nD) (i : Fin 128) :
    V1 m c main_v21 (ix2 (0 : Fin 1) i) = m ((c.tc : Thread nD τ).loc main_arg2) (ix1 (rowOf c i)) := by
  have hoff : S1024.Slices ![128 * (c.val % 8)] S128 := by
    have h : ∀ r : Fin 8, S1024.Slices ![128 * r.val] S128 := by decide
    exact h ⟨c.val % 8, Nat.mod_lt _ (by decide)⟩
  rw [labs_eq, Host.dynamicSlice_eq_extractStridedSlice _ _ _ _ _ hoff (fun a => by
    match a with
    | ⟨0, _⟩ => exact firstRow_val c)]
  refine (shapeCast_a_1a_apply _ _ _ _).trans ?_
  exact extractStridedSlice_apply _ _ _ _ _ (fun a => by
    match a with
    | ⟨0, _⟩ => rfl)

/-- Row 128·b + i of the result is element (b, i) of what the region writes. -/
theorem out_apply (c : Dev nD) (b : Fin 8) (i : Fin 128) :
    V3 m (outs m) c main_v23 (ix1 (⟨128 * b.val + i.val, by omega⟩ : Fin 1024)) = resOf (V1 m) c (ix2 b i) := by
  show StableHlo.after hostOps1 (V2 m (outs m) c) main_v23 _ = _
  rw [V2_eq, res_eq c, Vout_res]
  refine shapeCast_apply _ _ _ (ix2 b i) ?_
  rw [Shape.rowMajor_val_two, Shape.rowMajor_val_one]
  show b.val * 128 + i.val = 128 * b.val + i.val
  omega

end Cert.KernelIdeal.Talk
-- ==== Proof.Logit.lean ====
/-
The mathematics both programs compute, with no program in it: the logits, and sums over the classes cut in two halves.
-/
module

public import Idealize.ShloMosaic.PureOps.Ideal.Laws
public import Idealize.ShloMosaic.Lib.ValueIdx

@[expose] public section

noncomputable section

namespace Cert.Loss

open Idealize.ShloMosaic Idealize.ShloMosaic.ValueIdx
open scoped BigOperators

/-- The logit of token `t` for class `v`: their dot product (and 0 for a number that names no class). -/
def logit (X : (⟨2, ![1024, 2048]⟩ : Shape).Idx → EReal) (W : (⟨2, ![2048, 32768]⟩ : Shape).Idx → EReal) (t : Fin 1024) (v : ℕ) : EReal :=
  if h : v < 32768 then ∑ k : Fin 2048, X (ix2 t k) * W (ix2 k ⟨v, h⟩) else 0

/-- What sixteen devices bring in for one row, each its half of the classes or nothing, is the sum over all classes. -/
theorem sum_devices (G : ℕ → EReal) (b : Fin 8) :
    (∑ d : Fin 16, if b.val = d.val % 8 then ∑ v ∈ Finset.range 16384, G (16384 * (d.val / 8) + v) else 0) = ∑ v ∈ Finset.range 32768, G v := by
  have hH : ∀ (H : ℕ → EReal), (∑ d : Fin 16, if b.val = d.val % 8 then H (d.val / 8) else 0) = H 0 + H 1 := by
    intro H
    fin_cases b <;> simp [Fin.sum_univ_succ]
  rw [hH fun q => ∑ v ∈ Finset.range 16384, G (16384 * q + v), show (32768 : ℕ) = 16384 + 16384 from rfl, Finset.sum_range_add]
  simp only [Nat.mul_zero, Nat.zero_add, Nat.mul_one]

end Cert.Loss
-- ==== Proof.ValueIdeal.lean ====
/-
What the kernel's program leaves in its result: at every token the logarithm of the sum of the exponentials of its logits,
less the logit of its label.
-/
module

public import proofs.«01_k».proof.Proof.SumIdeal
public import proofs.«01_k».proof.Proof.ExchIdeal
public import proofs.«01_k».proof.Proof.HostIdeal
public import proofs.«01_k».proof.Proof.Logit
public import Idealize.ShloMosaic.Lib.Layout

@[expose] public section

set_option maxRecDepth 16384

noncomputable section

namespace Cert.KernelIdeal.Talk

open Idealize.ShloMosaic hiding ix1 ix2 ix3
open Idealize.ShloMosaic.ValueIdx Idealize.ShloMosaic.TcCoe
open Cert.KernelIdeal Cert.KernelIdeal.Gen Cert.Loss
open scoped BigOperators

/-- Device `c`'s block of the weights is its half of the columns. -/
theorem half_apply (W : (⟨2, ![2048, 32768]⟩ : Shape).Idx → EReal) (c : Dev nD) (k : Fin 2048) (j : Fin 16384) :
    (Layout.blockN ⟨2, ![2048, 16384]⟩ ⟨2, ![2048, 32768]⟩ (Layout.meshBlock [2, 2, 4] ![[], [0]] c) W : _ → EReal) (ix2 k j)
      = W (ix2 k (⟨16384 * (c.val / 8) + j.val, by have := c.isLt; change c.val < 16 at this; omega⟩ : Fin 32768)) := by
  have hm : ∀ c : Dev nD, ((Layout.meshBlock [2, 2, 4] ![[], [0]] c : (b : Fin 2) → _) 1).val = c.val / 8 := by decide +kernel
  have hm0 : ∀ c : Dev nD, ((Layout.meshBlock [2, 2, 4] ![[], [0]] c : (b : Fin 2) → _) 0).val = 0 := by decide +kernel
  rw [Layout.blockN_apply]
  refine congrArg W (funext fun a => Fin.ext ((Layout.TilesN.idx_val _ _ _ a).trans ?_))
  match a with
  | ⟨0, _⟩ =>
    show ((Layout.meshBlock [2, 2, 4] ![[], [0]] c : (b : Fin 2) → _) 0).val * 2048 + k.val = k.val
    rw [hm0]; omega
  | ⟨1, _⟩ =>
    show ((Layout.meshBlock [2, 2, 4] ![[], [0]] c : (b : Fin 2) → _) 1).val * 16384 + j.val = 16384 * (c.val / 8) + j.val
    rw [hm]; omega

variable (m : (ℓ : Loc nD τ sig) → Buf (Elt Ideal) ℓ)
  (X : (⟨2, ![1024, 2048]⟩ : Shape).Idx → EReal) (W : (⟨2, ![2048, 32768]⟩ : Shape).Idx → EReal) (lab : IVec ⟨1, ![1024]⟩ 32)
  (hX : ∀ c : Dev nD, m ((c.tc : Thread nD τ).loc main_arg0) = X)
  (hW : ∀ c : Dev nD, m ((c.tc : Thread nD τ).loc main_arg1)
    = Layout.blockN ⟨2, ![2048, 16384]⟩ ⟨2, ![2048, 32768]⟩ (Layout.meshBlock [2, 2, 4] ![[], [0]] c) W)
  (hlab : ∀ c : Dev nD, m ((c.tc : Thread nD τ).loc main_arg2) = lab)

include hX hW in
/-- A tile's products are the logits of the device's rows for the tile's classes. -/
theorem tile_logit (c : Dev nD) (n : ℕ) (hn : n < 16) (i : Fin 128) (j : Fin 1024) :
    (k0_pay12 (F := Ideal) (xAt (V1 m) c (pt n)) (wAt (V1 m) c (pt n)) (ix2 i j) : EReal)
      = logit X W (rowOf c i) (16384 * (c.val / 8) + (1024 * n + j.val)) := by
  have hv : 16384 * (c.val / 8) + (1024 * n + j.val) < 32768 := by have := c.isLt; change c.val < 16 at this; omega
  rw [prod_apply]
  unfold logit
  rw [dif_pos hv]
  refine Finset.sum_congr rfl fun k _ => ?_
  rw [xAt_apply _ c n hn, wAt_apply _ c n hn, rows_apply, w_eq, hX, hW, half_apply]

include hX hW hlab in
/-- The result at token 128·b + i. -/
theorem loss_apply (hr : ∀ t : Fin 1024, (lab (ix1 t)).toNat < 32768) (c : Dev nD) (b : Fin 8) (i : Fin 128) (t : Fin 1024)
    (ht : t.val = 128 * b.val + i.val) :
    (V3 m (outs m) c main_v23 (ix1 t) : EReal)
      = Ideal.log (∑ v ∈ Finset.range 32768, Ideal.exp (logit X W t v)) - logit X W t (lab (ix1 t)).toNat := by
  have ho := out_apply m c b i
  rw [show (⟨128 * b.val + i.val, by omega⟩ : Fin 1024) = t from (Fin.ext ht).symm] at ho
  have hrow (d : Dev nD) (h : b.val = d.val % 8) : rowOf d i = t := Fin.ext (by show 128 * (d.val % 8) + i.val = t.val; rw [ht, h])
  have hS (d : Dev nD) : (initOf (V1 m) d (ix3 (0 : Fin 2) b i) : EReal)
      = if b.val = d.val % 8 then ∑ v ∈ Finset.range 16384, Ideal.exp (logit X W t (16384 * (d.val / 8) + v)) else 0 := by
    unfold initOf
    rw [start_apply]
    by_cases h : b.val = d.val % 8
    · rw [if_pos h, if_pos h, if_pos rfl, sAt_apply (V1 m) d (fun i v => logit X W (rowOf d i) v) (tile_logit m X W hX hW d) i 16 le_rfl, hrow d h]
    · rw [if_neg h, if_neg h]
  have hL (d : Dev nD) : (initOf (V1 m) d (ix3 (1 : Fin 2) b i) : EReal)
      = if b.val = d.val % 8 then ∑ v ∈ Finset.range 16384,
          (fun v => if v = (lab (ix1 t)).toNat then logit X W t v else 0) (16384 * (d.val / 8) + v) else 0 := by
    unfold initOf
    rw [start_apply]
    by_cases h : b.val = d.val % 8
    · rw [if_pos h, if_pos h, if_neg (show ¬ (1 : Fin 2) = 0 by decide), lAt_apply (V1 m) d (fun i v => logit X W (rowOf d i) v) (tile_logit m X W hX hW d) i 16 le_rfl, labs_apply,
        hlab, hrow d h]
    · rw [if_neg h, if_neg h]
  rw [ho]
  show (outOf (accAt (initOf (V1 m)) 4 c) (ix2 b i) : EReal) = _
  rw [outOf_apply, acc_apply, acc_apply]
  simp only [hS, hL]
  rw [show (∑ d : Dev nD, _ : EReal) = _ from sum_devices (fun v => Ideal.exp (logit X W t v)) b,
    show (∑ d : Dev nD, _ : EReal) = _ from sum_devices (fun v => if v = (lab (ix1 t)).toNat then logit X W t v else 0) b,
    Finset.sum_ite_eq', if_pos (Finset.mem_range.mpr (hr t))]

end Cert.KernelIdeal.Talk
-- ==== Proof.RefIdeal.lean ====
/-
What the reference program computes, read at a token: its row maximum, its logarithm of the shifted sum, and the logit its
gather takes.
-/
module

public import proofs.«01_k».proof.Proof.Gen.ReferenceIdeal.Run
public import proofs.«01_k».proof.Proof.Logit
public import Idealize.ShloMosaic.Lib.StackMember
public import Idealize.ShloMosaic.Lib.IdealHost
public import Idealize.ShloMosaic.Lib.DynamicIndex
public import Idealize.ShloMosaic.Lib.Pipeline.Value

@[expose] public section

set_option maxRecDepth 16384

noncomputable section

namespace Cert.ReferenceIdeal.Read

open Idealize.ShloMosaic
open Idealize.ShloMosaic.ValueIdx
open Cert.ReferenceIdeal Cert.ReferenceIdeal.Gen Cert.Loss
open scoped BigOperators

/-- The reference's logits. -/
def dotV (X : FVec Ideal S1024x2048 .f32) (W : FVec Ideal S2048x32768 .f32) : FVec Ideal S1024x32768 .f32 :=
  Host.dotGeneral dot_S1024x2048_S2048x32768_S1024x32768_1_0_0_1_n_n none X W

/-- The reference's row maxima. -/
def maxV (D : FVec Ideal S1024x32768 .f32) : FVec Ideal S1024 .f32 :=
  Host.reduce FloatOps.maximumf D (constant S_ .f32 0xFF800000#32) reducesTo_S1024x32768_S1024_d1 h_S_

/-- The reference's sums of the shifted exponentials. -/
def sumV (D : FVec Ideal S1024x32768 .f32) : FVec Ideal S1024 .f32 :=
  Host.reduceAdd (Host.exp (subf D (broadcastInDim S1024x32768 ![0, 1] bcast_S1024x1_S1024x32768_0_1
    (broadcastInDim S1024x1 ![0] bcast_S1024_S1024x1_0 (maxV D))))) (constant S_ .f32 0x00000000#32) reducesTo_S1024x32768_S1024_d1 h_S_

/-- The reference's logarithms of the sums of exponentials. -/
def lseV (D : FVec Ideal S1024x32768 .f32) : FVec Ideal S1024 .f32 :=
  shapeCast _ (addf (broadcastInDim S1024x1 ![0] bcast_S1024_S1024x1_0 (maxV D))
    (Host.log (broadcastInDim S1024x1 ![0] bcast_S1024_S1024x1_0 (sumV D)))) shapeCasts_S1024x1_S1024

/-- A vector of places with the negative ones counted from the end, `n` places in all. -/
def wrapV (n : BitVec 32) (p : IVec S1024 32) : IVec S1024 32 :=
  select (cmpi .slt p (broadcastInDim S1024 ![] bcast_S_S1024 (constantI S_ 32 0#32)))
    (addi p (broadcastInDim S1024 ![] bcast_S_S1024 (constantI S_ 32 n))) p

/-- The places the gather reads: each token's number beside its label. -/
def placeV (lab : IVec S1024 32) : IVec S1024x2 32 :=
  concatenate S1024x2 1 [⟨S1024x1, broadcastInDim S1024x1 ![0] bcast_S1024_S1024x1_0 (wrapV 1024#32 (iotaInDim S1024 32 0))⟩,
    ⟨S1024x1, broadcastInDim S1024x1 ![0] bcast_S1024_S1024x1_0 (wrapV 32768#32 lab)⟩] concatenates_S1024x1_S1024x1_S1024x2_d1

/-- The reference's result. -/
def lossV (X : FVec Ideal S1024x2048 .f32) (W : FVec Ideal S2048x32768 .f32) (lab : IVec S1024 32) : FVec Ideal S1024 .f32 :=
  subf (lseV (dotV X W)) (Host.gather gather_S1024x32768_S1024x2_S1024_n_01_n_n_01_1_11 (dotV X W) (placeV lab))

theorem dot_apply (X : FVec Ideal S1024x2048 .f32) (W : FVec Ideal S2048x32768 .f32) (t : Fin 1024) (v : Fin 32768) :
    (dotV X W (ix2 t v) : EReal) = logit X W t v.val := by
  unfold logit
  rw [dif_pos v.isLt]
  exact StackMember.dotGeneral_plain_apply (φ₁ := .f32) (φ₂ := .f32) none X W t v

/-- A vector stood up as a column. -/
theorem col_apply {α : Type} (x : S1024.Idx → α) (t : Fin 1024) :
    broadcastInDim S1024x1 ![0] bcast_S1024_S1024x1_0 x (ix2 t (0 : Fin 1)) = x (ix1 t) :=
  broadcastInDim_apply _ _ x _ (ix1 t) fun a => by obtain rfl : a = 0 := Subsingleton.elim _ _; rfl

/-- A column laid along every row. -/
theorem wide_apply {α : Type} (x : S1024x1.Idx → α) (t : Fin 1024) (v : Fin 32768) :
    broadcastInDim S1024x32768 ![0, 1] bcast_S1024x1_S1024x32768_0_1 x (ix2 t v) = x (ix2 t (0 : Fin 1)) :=
  broadcastInDim_apply _ _ x _ (ix2 t (0 : Fin 1)) fun a => by
    match a with
    | ⟨0, _⟩ => rfl
    | ⟨1, _⟩ => rfl

theorem reduces_row : Shape.Reduces S1024x32768 [1] S1024 := by decide

/-- The index over row `t` at column `v`. -/
theorem lift_row (t : Fin 1024) (v : Fin 32768) : reduces_row.lift (ix1 t) v = ix2 t v := by
  funext a; apply Fin.ext
  match a with
  | ⟨0, _⟩ => rfl
  | ⟨1, _⟩ => rfl

theorem max_apply (D : FVec Ideal S1024x32768 .f32) (t : Fin 1024) :
    (maxV D (ix1 t) : EReal) = (Finset.univ : Finset (Fin 32768)).fold max (⊥ : EReal) (fun v => D (ix2 t v)) := by
  unfold maxV
  refine (Host.reduce_eq_fold_single (FloatOps.maximumf (F := Ideal) (φ := .f32)) D _ _ reduces_row h_S_ (ix1 t)).trans ?_
  have h0 : (Ideal.ofBits .f32 0xFF800000#32 : EReal) = ⊥ := by simp [Ideal.ofBits, Ideal.ieee]
  show Finset.fold max (Ideal.ofBits .f32 0xFF800000#32 : EReal) _ _ = _
  rw [h0]
  exact congrArg (fun f => Finset.fold max (⊥ : EReal) f (Finset.univ : Finset (Fin 32768))) (funext fun v => congrArg D (lift_row t v))

theorem sum_apply (D : FVec Ideal S1024x32768 .f32) (t : Fin 1024) :
    (sumV D (ix1 t) : EReal) = ∑ v : Fin 32768, Ideal.exp (D (ix2 t v) - maxV D (ix1 t)) := by
  unfold sumV
  refine (Ideal.hostReduceAdd_single _ reduces_row _ _ (ix1 t)).trans ?_
  rw [show (constant (F := Ideal) S_ .f32 0x00000000#32 (Shape.Idx.first h_S_) : EReal) = 0 from Ideal.ofBits_zero_f32, zero_add]
  refine Finset.sum_congr rfl fun (v : Fin 32768) _ => ?_
  refine (congrArg _ (lift_row t v)).trans ?_
  show Ideal.exp (D (ix2 t v) - broadcastInDim S1024x32768 ![0, 1] bcast_S1024x1_S1024x32768_0_1
    (broadcastInDim S1024x1 ![0] bcast_S1024_S1024x1_0 (maxV D)) (ix2 t v)) = _
  rw [wide_apply, col_apply]

/-- A column plus the logarithm of another, at an index. -/
theorem add_log_at (a b : FVec Ideal S1024x1 .f32) (j : S1024x1.Idx) : (addf a (Host.log b) j : EReal) = a j + Ideal.log (b j) := rfl

/-- A difference of two vectors, at an index. -/
theorem sub_at (a b : FVec Ideal S1024 .f32) (j : S1024.Idx) : (subf a b j : EReal) = a j - b j := rfl

theorem lse_apply (D : FVec Ideal S1024x32768 .f32) (t : Fin 1024) :
    (lseV D (ix1 t) : EReal) = maxV D (ix1 t) + Ideal.log (∑ v : Fin 32768, Ideal.exp (D (ix2 t v) - maxV D (ix1 t))) := by
  unfold lseV
  refine (shapeCast_apply _ _ _ (ix2 t (0 : Fin 1)) ?_).trans ?_
  · rw [Shape.rowMajor_val_two, Shape.rowMajor_val_one]
    show t.val * 1 + 0 = t.val
    omega
  rw [add_log_at, col_apply, col_apply, sum_apply]

/-- A place that is not negative stays. -/
theorem wrap_apply (n : BitVec 32) (p : IVec S1024 32) (t : Fin 1024) (h : (p (ix1 t)).toNat < 2 ^ 31) :
    wrapV n p (ix1 t) = p (ix1 t) := by
  unfold wrapV
  refine select_slt_zero_of_nonneg (s := S1024) p _ _ (ix1 t) ?_
  rw [BitVec.toInt_eq_toNat_cond]; split <;> omega

theorem place_row (lab : IVec S1024 32) (t : Fin 1024) : (placeV lab (ix2 t (0 : Fin 2))).toInt.toNat = t.val := by
  have ht := t.isLt
  unfold placeV
  rw [concatenate_pair_apply_left (s₁ := S1024x1) (s₂ := S1024x1) 1 _ _ _ (ix2 t (0 : Fin 2)) rfl (ix2 t (0 : Fin 1)) (fun b => by
    match b with
    | ⟨0, _⟩ => rfl
    | ⟨1, _⟩ => rfl), col_apply]
  have hi : iotaInDim S1024 32 0 (ix1 t) = BitVec.ofNat 32 t.val := rfl
  rw [wrap_apply _ _ _ (by rw [hi, BitVec.toNat_ofNat]; omega), hi, toInt_ofNat_of_lt (by omega)]
  omega

theorem place_label (lab : IVec S1024 32) (t : Fin 1024) (h : (lab (ix1 t)).toNat < 32768) :
    (placeV lab (ix2 t (1 : Fin 2))).toInt.toNat = (lab (ix1 t)).toNat := by
  unfold placeV
  rw [concatenate_pair_apply_right (s₁ := S1024x1) (s₂ := S1024x1) 1 _ _ _ (ix2 t (1 : Fin 2)) rfl rfl (ix2 t (0 : Fin 1)) (fun b hb => by
    match b with
    | ⟨0, _⟩ => rfl
    | ⟨1, _⟩ => exact absurd rfl hb) rfl, col_apply, wrap_apply _ _ _ (by omega), BitVec.toInt_eq_toNat_cond]
  split <;> omega

/-- The gather at token `t` reads the row and the column its two places name, when they lie in the array. -/
theorem gather_apply (D : FVec Ideal S1024x32768 .f32) (idx : IVec S1024x2 32) (t r : Fin 1024) (v : Fin 32768)
    (hr : (idx (ix2 t (0 : Fin 2))).toInt.toNat = r.val) (hv : (idx (ix2 t (1 : Fin 2))).toInt.toNat = v.val) :
    Host.gather gather_S1024x32768_S1024x2_S1024_n_01_n_n_01_1_11 D idx (ix1 t) = D (ix2 r v) := by
  unfold Host.gather
  refine congrArg D (funext fun a => Fin.ext ?_)
  have hm (a : Fin 2) : a ∈ gather_S1024x32768_S1024x2_S1024_n_01_n_n_01_1_11.startIndexMap := by
    fin_cases a <;> simp [gather_S1024x32768_S1024x2_S1024_n_01_n_n_01_1_11]
  have hc (a : Fin 2) : a ∉ gather_S1024x32768_S1024x2_S1024_n_01_n_n_01_1_11.sKept := fun h =>
    ((GatherDims.mem_sKept _ _).mp h).1 (hm a)
  show gather_S1024x32768_S1024x2_S1024_n_01_n_n_01_1_11.start (ix1 t) idx a + gather_S1024x32768_S1024x2_S1024_n_01_n_n_01_1_11.batchCoord (ix1 t) a
    + gather_S1024x32768_S1024x2_S1024_n_01_n_n_01_1_11.offCoord (ix1 t) a = _
  rw [GatherDims.batchCoord_eq_zero _ _ _ List.not_mem_nil, GatherDims.offCoord_eq_zero _ _ _ (hc a)]
  simp only [Nat.add_zero]
  unfold GatherDims.start
  rw [dif_pos (hm a)]
  have hsi : gather_S1024x32768_S1024x2_S1024_n_01_n_n_01_1_11.siIdx (ix1 t)
      ⟨List.idxOf a gather_S1024x32768_S1024x2_S1024_n_01_n_n_01_1_11.startIndexMap, List.idxOf_lt_length_iff.2 (hm a)⟩ = ix2 t (a : Fin 2) := by
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
  rw [hsi]
  match a with
  | ⟨0, _⟩ =>
    show min (idx (ix2 t (0 : Fin 2))).toInt.toNat (1024 - 1) = r.val
    rw [hr]; exact min_eq_left (Nat.le_sub_one_of_lt r.isLt)
  | ⟨1, _⟩ =>
    show min (idx (ix2 t (1 : Fin 2))).toInt.toNat (32768 - 1) = v.val
    rw [hv]; exact min_eq_left (Nat.le_sub_one_of_lt v.isLt)

/-- The logit the reference takes. -/
theorem picked_apply (X : FVec Ideal S1024x2048 .f32) (W : FVec Ideal S2048x32768 .f32) (lab : IVec S1024 32) (t : Fin 1024)
    (h : (lab (ix1 t)).toNat < 32768) :
    (Host.gather gather_S1024x32768_S1024x2_S1024_n_01_n_n_01_1_11 (dotV X W) (placeV lab) (ix1 t) : EReal)
      = logit X W t (lab (ix1 t)).toNat :=
  (gather_apply (dotV X W) (placeV lab) t t ⟨(lab (ix1 t)).toNat, h⟩ (place_row lab t) (place_label lab t h)).trans (dot_apply X W t _)

/-- A row's logarithm of the sum of exponentials, in logits. -/
theorem lse_logit (X : FVec Ideal S1024x2048 .f32) (W : FVec Ideal S2048x32768 .f32) (t : Fin 1024) :
    (lseV (dotV X W) (ix1 t) : EReal)
      = (Finset.univ : Finset (Fin 32768)).fold max (⊥ : EReal) (fun v => logit X W t v.val)
        + Ideal.log (∑ v : Fin 32768, Ideal.exp (logit X W t v.val
            - (Finset.univ : Finset (Fin 32768)).fold max (⊥ : EReal) (fun v => logit X W t v.val))) := by
  rw [lse_apply, max_apply]
  simp only [dot_apply]

/-- The reference's result at token `t`, where the label names a class. -/
theorem loss_apply (X : FVec Ideal S1024x2048 .f32) (W : FVec Ideal S2048x32768 .f32) (lab : IVec S1024 32) (t : Fin 1024)
    (h : (lab (ix1 t)).toNat < 32768) :
    (lossV X W lab (ix1 t) : EReal)
      = (Finset.univ : Finset (Fin 32768)).fold max (⊥ : EReal) (fun v => logit X W t v.val)
        + Ideal.log (∑ v : Fin 32768, Ideal.exp (logit X W t v.val
            - (Finset.univ : Finset (Fin 32768)).fold max (⊥ : EReal) (fun v => logit X W t v.val)))
        - logit X W t (lab (ix1 t)).toNat := by
  unfold lossV
  rw [sub_at, lse_logit, picked_apply X W lab t h]

end Cert.ReferenceIdeal.Read
-- ==== Proof.Shift.lean ====
/-
The equation between the two programs: for real logits the logarithm of the sum of the exponentials does not change when a
real number is taken from every logit and added back to the logarithm.
-/
module

public import proofs.«01_k».proof.Proof.Logit
public import Mathlib.Analysis.SpecialFunctions.Log.Basic

@[expose] public section

noncomputable section

namespace Cert.Loss

open Idealize.ShloMosaic Idealize.ShloMosaic.ValueIdx
open scoped BigOperators

/-- A sum of real numbers among the extended reals. -/
theorem coe_real_sum {n : ℕ} (f : Fin n → ℝ) : ((∑ v, f v : ℝ) : EReal) = ∑ v, (f v : EReal) := by
  induction n with
  | zero => simp
  | succ n ih => rw [Fin.sum_univ_succ, Fin.sum_univ_succ, EReal.coe_add, ih]

/-- A sum of real exponentials, as the extended reals have it. -/
theorem sum_exp_coe {n : ℕ} (f : Fin n → ℝ) : (∑ v, Ideal.exp (f v : EReal)) = ((∑ v, Real.exp (f v) : ℝ) : EReal) := by
  rw [coe_real_sum]
  exact Finset.sum_congr rfl fun v _ => rfl

/-- The logarithm of a positive real. -/
theorem log_coe_pos {r : ℝ} (h : 0 < r) : Ideal.log (r : EReal) = (Real.log r : EReal) := by
  show (if r ≤ 0 then (⊥ : EReal) else (Real.log r : EReal)) = _
  rw [if_neg (not_le.mpr h)]

/-- Shifting real logits by a real number. -/
theorem shift {n : ℕ} [NeZero n] (f : Fin n → ℝ) (M : ℝ) :
    (M : EReal) + Ideal.log (∑ v, Ideal.exp ((f v : EReal) - (M : EReal))) = Ideal.log (∑ v, Ideal.exp (f v : EReal)) := by
  have hs : ∀ v, ((f v : EReal) - (M : EReal)) = ((f v - M : ℝ) : EReal) := fun v => (EReal.coe_sub _ _).symm
  have hp : 0 < ∑ v, Real.exp (f v) := Finset.sum_pos (fun v _ => Real.exp_pos _) ⟨0, Finset.mem_univ _⟩
  have hq : ∑ v, Real.exp (f v - M) = (∑ v, Real.exp (f v)) * Real.exp (-M) := by
    rw [Finset.sum_mul]
    exact Finset.sum_congr rfl fun v _ => by rw [← Real.exp_add, sub_eq_add_neg]
  simp only [hs]
  rw [sum_exp_coe, sum_exp_coe, hq, log_coe_pos hp, log_coe_pos (mul_pos hp (Real.exp_pos _)),
    Real.log_mul hp.ne' (Real.exp_pos _).ne', Real.log_exp, ← EReal.coe_add]
  congr 1; ring

/-- The maximum of real numbers is one of them. -/
theorem fold_max_real {n : ℕ} [NeZero n] (f : Fin n → ℝ) :
    ∃ M : ℝ, (Finset.univ : Finset (Fin n)).fold max (⊥ : EReal) (fun v => (f v : EReal)) = (M : EReal) := by
  classical
  have h : ∀ s : Finset (Fin n), s.fold max (⊥ : EReal) (fun v => (f v : EReal)) = ⊥ ∧ s = ∅
      ∨ ∃ M : ℝ, s.fold max (⊥ : EReal) (fun v => (f v : EReal)) = (M : EReal) := by
    intro s
    induction s using Finset.induction_on with
    | empty => exact Or.inl ⟨rfl, rfl⟩
    | insert a s ha ih =>
      right
      rw [Finset.fold_insert ha]
      rcases ih with ⟨e, _⟩ | ⟨M, e⟩
      · exact ⟨f a, by rw [e]; exact max_bot_right _⟩
      · exact ⟨max (f a) M, by rw [e]; exact (EReal.coe_strictMono.monotone.map_max).symm⟩
  rcases h Finset.univ with ⟨_, e⟩ | h
  · exact absurd e (Finset.univ_nonempty (α := Fin n)).ne_empty
  · exact h

/-- The logits of finite arrays are real. -/
theorem logit_real (X : (⟨2, ![1024, 2048]⟩ : Shape).Idx → EReal) (W : (⟨2, ![2048, 32768]⟩ : Shape).Idx → EReal)
    (hX : ∀ i, ∃ r : ℝ, X i = (r : EReal)) (hW : ∀ i, ∃ r : ℝ, W i = (r : EReal)) (t : Fin 1024) (v : ℕ) :
    ∃ r : ℝ, logit X W t v = (r : EReal) := by
  choose x hx using hX
  choose w hw using hW
  unfold logit
  by_cases h : v < 32768
  · refine ⟨∑ k : Fin 2048, x (ix2 t k) * w (ix2 k ⟨v, h⟩), ?_⟩
    rw [dif_pos h, coe_real_sum]
    exact Finset.sum_congr rfl fun k _ => by rw [hx, hw, EReal.coe_mul]
  · exact ⟨0, by rw [dif_neg h]; rfl⟩

/-- THE EQUATION: for finite arrays the reference's shifted form is the plain one. -/
theorem shifted_eq (X : (⟨2, ![1024, 2048]⟩ : Shape).Idx → EReal) (W : (⟨2, ![2048, 32768]⟩ : Shape).Idx → EReal)
    (hX : ∀ i, ∃ r : ℝ, X i = (r : EReal)) (hW : ∀ i, ∃ r : ℝ, W i = (r : EReal)) (t : Fin 1024) :
    (Finset.univ : Finset (Fin 32768)).fold max (⊥ : EReal) (fun v => logit X W t v.val)
      + Ideal.log (∑ v : Fin 32768, Ideal.exp (logit X W t v.val
          - (Finset.univ : Finset (Fin 32768)).fold max (⊥ : EReal) (fun v => logit X W t v.val)))
      = Ideal.log (∑ v ∈ Finset.range 32768, Ideal.exp (logit X W t v)) := by
  choose f hf using fun v : Fin 32768 => logit_real X W hX hW t v.val
  haveI : NeZero 32768 := ⟨by decide⟩
  obtain ⟨M, hM⟩ := fold_max_real f
  rw [Finset.sum_range]
  simp only [hf]
  rw [hM]
  exact shift f M

end Cert.Loss
-- ==== Proof.PreIdeal.lean ====
/-
What the precondition says: the entries of the floats are real numbers and every label names a class.
-/
module

public import proofs.«01_k».proof.Pre_in_range_KernelIdeal
public import Idealize.ShloMosaic.Lib.IdealHost
public import Idealize.ShloMosaic.Lib.StableHlo.Predicate

@[expose] public section

noncomputable section

namespace Cert.Pre_in_range_KernelIdeal

open Idealize.ShloMosaic Idealize.ShloMosaic.ValueIdx
open Idealize.ShloMosaic.StableHlo.Predicate (ofBool_eq_one_iff)

/-- The word the floats are compared with is infinity. -/
theorem inf_word : (Ideal.ofBits .f32 0x7F800000#32 : EReal) = ⊤ := by simp [Ideal.ofBits, Ideal.ieee]

/-- An extended real whose absolute value lies below infinity is a real number. -/
theorem real_of_abs_lt (a : EReal) (h : max a (-a) < ⊤) : ∃ r : ℝ, a = (r : EReal) := by
  induction a with
  | bot => exact absurd h (by simp)
  | top => exact absurd h (by simp)
  | coe r => exact ⟨r, rfl⟩

/-- The comparison of absolute values with infinity, read at an index. -/
theorem real_of_bit {s : Shape} (h : S_.BroadcastsInDim s (![] : Fin 0 → Fin s.rank)) (x : FVec Ideal s .f32)
    (e : cmpf .olt (Host.absf x) (broadcastInDim s ![] h (constant (F := Ideal) S_ .f32 0x7F800000#32)) = fun _ => 1#1) (i : s.Idx) :
    ∃ r : ℝ, (x i : EReal) = (r : EReal) := by
  have h1 : BitVec.ofBool (decide (max (x i : EReal) (-(x i : EReal)) < Ideal.ofBits .f32 0x7F800000#32)) = 1#1 := congrFun e i
  rw [ofBool_eq_one_iff, decide_eq_true_iff, inf_word] at h1
  exact real_of_abs_lt _ h1

/-- Between 0 and 32768, both read signed, a word is below 32768 as a natural number. -/
theorem lt_of_signed (l : BitVec 32) (h0 : (0#32).sle l = true) (h1 : l.slt 32768#32 = true) : l.toNat < 32768 := by
  rw [BitVec.sle, decide_eq_true_iff, BitVec.toInt_eq_toNat_cond, BitVec.toInt_eq_toNat_cond] at h0
  rw [BitVec.slt, decide_eq_true_iff, BitVec.toInt_eq_toNat_cond, BitVec.toInt_eq_toNat_cond] at h1
  have := l.isLt
  simp at h0 h1
  split at h1 <;> omega

variable [Facts]
open Facts

/-- The first array's entries are real. -/
theorem x_real (x : FVec Ideal S1024x2048 .f32) (w : FVec Ideal S2048x16384 .f32) (l : IVec S1024 32)
    (h : (fn (F := Ideal) x w l).1 = fun _ => 1#1) (i : S1024x2048.Idx) : ∃ r : ℝ, (x i : EReal) = (r : EReal) :=
  real_of_bit bcast_S_S1024x2048 x h i

/-- The weights' entries are real. -/
theorem w_real (x : FVec Ideal S1024x2048 .f32) (w : FVec Ideal S2048x16384 .f32) (l : IVec S1024 32)
    (h : (fn (F := Ideal) x w l).2.1 = fun _ => 1#1) (i : S2048x16384.Idx) : ∃ r : ℝ, (w i : EReal) = (r : EReal) :=
  real_of_bit bcast_S_S2048x16384 w h i

/-- Every label names a class. -/
theorem label_lt (x : FVec Ideal S1024x2048 .f32) (w : FVec Ideal S2048x16384 .f32) (l : IVec S1024 32)
    (h : (fn (F := Ideal) x w l).2.2 = fun _ => 1#1) (i : S1024.Idx) : (l i).toNat < 32768 := by
  have h1 : BitVec.ofBool ((0#32).sle (l i)) &&& BitVec.ofBool ((l i).slt 32768#32) = 1#1 := congrFun h i
  rw [BitVec.ofBool_and_ofBool, ofBool_eq_one_iff, Bool.and_eq_true] at h1
  exact lt_of_signed _ h1.1 h1.2

end Cert.Pre_in_range_KernelIdeal
-- ==== Proof.Algebraic.lean ====
/-
The value claim: on the arrays the precondition admits every device's result is the reference's.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.RunIdeal
public import proofs.«01_k».proof.Proof.ValueIdeal
public import proofs.«01_k».proof.Proof.RefIdeal
public import proofs.«01_k».proof.Proof.Shift
public import proofs.«01_k».proof.Proof.PreIdeal

@[expose] public section

set_option maxRecDepth 16384

noncomputable section

namespace Cert.Proof

open Idealize.ShloMosaic hiding ix1 ix2 ix3
open Idealize.ShloMosaic.ValueIdx Idealize.ShloMosaic.TcCoe Idealize.SL.Sem
open Cert.Loss

/-- The weights are real when both halves of their columns are: column `v` lies in the half of device `8·(v / 16384)`. -/
theorem weights_real (W : (⟨2, ![2048, 32768]⟩ : Shape).Idx → EReal)
    (h : ∀ (c : Dev Cert.KernelIdeal.nD) (k : Fin 2048) (j : Fin 16384), ∃ r : ℝ,
      W (ix2 k (⟨16384 * (c.val / 8) + j.val, by have := c.isLt; change c.val < 16 at this; omega⟩ : Fin 32768)) = (r : EReal))
    (i : (⟨2, ![2048, 32768]⟩ : Shape).Idx) : ∃ r : ℝ, W i = (r : EReal) := by
  obtain ⟨k, v, rfl⟩ : ∃ (k : Fin 2048) (v : Fin 32768), i = ix2 k v := ⟨i 0, i 1, ValueIdx.eq_ix2 i⟩
  have hv := v.isLt
  obtain ⟨r, hr⟩ := h ⟨8 * (v.val / 16384), by show _ < 16; omega⟩ k ⟨v.val % 16384, Nat.mod_lt _ (by decide)⟩
  refine ⟨r, Eq.trans (congrArg (fun u => W (ix2 k u)) (Fin.ext ?_)) hr⟩
  show v.val = 16384 * (8 * (v.val / 16384) / 8) + v.val % 16384
  omega

/-- The two programs' results agree at every token. -/
theorem result_eq (m : (ℓ : Loc Cert.KernelIdeal.nD Cert.KernelIdeal.τ Cert.KernelIdeal.sig) → Buf (Elt Ideal) ℓ)
    (X : (⟨2, ![1024, 2048]⟩ : Shape).Idx → EReal) (W : (⟨2, ![2048, 32768]⟩ : Shape).Idx → EReal) (lab : IVec ⟨1, ![1024]⟩ 32)
    (hX : ∀ c : Dev Cert.KernelIdeal.nD, m ((c.tc : Thread Cert.KernelIdeal.nD Cert.KernelIdeal.τ).loc Cert.KernelIdeal.main_arg0) = X)
    (hW : ∀ c : Dev Cert.KernelIdeal.nD, m ((c.tc : Thread Cert.KernelIdeal.nD Cert.KernelIdeal.τ).loc Cert.KernelIdeal.main_arg1)
      = Layout.blockN ⟨2, ![2048, 16384]⟩ ⟨2, ![2048, 32768]⟩ (Layout.meshBlock [2, 2, 4] ![[], [0]] c) W)
    (hlab : ∀ c : Dev Cert.KernelIdeal.nD, m ((c.tc : Thread Cert.KernelIdeal.nD Cert.KernelIdeal.τ).loc Cert.KernelIdeal.main_arg2) = lab)
    (hXr : ∀ i, ∃ r : ℝ, X i = (r : EReal)) (hWr : ∀ i, ∃ r : ℝ, W i = (r : EReal))
    (hr : ∀ t : Fin 1024, (lab (ix1 t)).toNat < 32768) (c : Dev Cert.KernelIdeal.nD) :
    Cert.KernelIdeal.Gen.V3 m (Cert.KernelIdeal.Talk.outs m) c Cert.KernelIdeal.main_v23 = Cert.ReferenceIdeal.Read.lossV X W lab := by
  funext i
  obtain ⟨t, rfl⟩ : ∃ t : Fin 1024, i = ix1 t := ⟨i 0, ValueIdx.eq_ix1 i⟩
  have ht := t.isLt
  refine (Cert.KernelIdeal.Talk.loss_apply m X W lab hX hW hlab hr c ⟨t.val / 128, by omega⟩ ⟨t.val % 128, Nat.mod_lt _ (by decide)⟩ t
    (by show t.val = 128 * (t.val / 128) + t.val % 128; omega)).trans ?_
  refine Eq.trans ?_ (Cert.ReferenceIdeal.Read.loss_apply X W lab t (hr t)).symm
  rw [shifted_eq X W hXr hWr t]

/-- The value claim. -/
theorem algebraic [Cert.Pre_in_range_KernelIdeal.Facts] :
    Cert.algebraic_KernelIdeal_ReferenceIdeal_pre_in_range_KernelIdeal (hKernelIdeal := Cert.KernelIdeal.Gen.facts)
      (hReferenceIdeal := Cert.ReferenceIdeal.Gen.facts) := by
  intro m g m' g' hpre hio
  have hWc (c : Dev Cert.KernelIdeal.nD) (k : Fin 2048) (j : Fin 16384) := Cert.Pre_in_range_KernelIdeal.w_real _ _ _ (hpre c).2.1 (ix2 k j)
  have hV := result_eq m _ _ _ (fun c => (hio c).1) (fun c => (hio c).2.1) (fun c => (hio c).2.2)
    (fun i => by have := Cert.Pre_in_range_KernelIdeal.x_real _ _ _ (hpre 0).1 i; rw [(hio 0).1] at this; exact this)
    (weights_real _ fun c k j => by
      have := hWc c k j
      rw [(hio c).2.1, Cert.KernelIdeal.Talk.half_apply] at this
      exact this)
    (fun t => by have := Cert.Pre_in_range_KernelIdeal.label_lt _ _ _ (hpre 0).2.2 (ix1 t); rw [(hio 0).2.2] at this; exact this)
  refine ⟨Cert.ReferenceIdeal.Read.lossV (m' ((0 : Dev Cert.ReferenceIdeal.nD).tc.loc Cert.ReferenceIdeal.main_arg0))
      (m' ((0 : Dev Cert.ReferenceIdeal.nD).tc.loc Cert.ReferenceIdeal.main_arg1)) (m' ((0 : Dev Cert.ReferenceIdeal.nD).tc.loc Cert.ReferenceIdeal.main_arg2)),
    θ_run_mono (Cert.KernelIdeal.Talk.run_main m g) fun r h c => ⟨(h.1 c).res.trans (hV c), (h.1 c).arg0, (h.1 c).arg1, (h.1 c).arg2⟩,
    θ_run_mono (Cert.ReferenceIdeal.Value.run m' g') fun r h => ⟨(h 0).1.trans ?_, (h 0).2⟩⟩
  rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.RunIdeal
public import proofs.«01_k».proof.Proof.Algebraic
public import Idealize.ShloMosaic.Adequacy
public import Idealize.ShloMosaic.Init

@[expose] public section

noncomputable section

namespace Cert.Proof

open Idealize.ShloMosaic Idealize.SL.Sem

/-- The facts the precondition states of its shapes. -/
theorem preFacts : Cert.Pre_in_range_KernelIdeal.Facts := ⟨by decide, by decide, by decide⟩

/-- The same at the whole arrays' shapes. -/
theorem preFactsWhole : Cert.Pre_in_range_ReferenceIdeal.Facts := ⟨by decide, by decide, by decide⟩

/-- The exact kernel runs and leaves its arguments. -/
theorem frameIdeal : Cert.quiescent_KernelIdeal (hKernelIdeal := Cert.KernelIdeal.Gen.facts) :=
  fun m g _ => θ_run_mono (Cert.KernelIdeal.Talk.run_main m g) fun _ h => ⟨fun c => ⟨(h.1 c).arg0, (h.1 c).arg1, (h.1 c).arg2⟩, h.2⟩

/-- The exact reference runs and leaves its arguments. -/
theorem frameRef : Cert.quiescent_ReferenceIdeal (hReferenceIdeal := Cert.ReferenceIdeal.Gen.facts) :=
  fun m g _ => θ_run_mono (Cert.ReferenceIdeal.Value.run m g) fun r h => ⟨fun c => (h c).2, sem_eq_zero_of_no_sems rfl r.2⟩

theorem claim : Cert.Claim := ⟨Cert.Kernel.Gen.facts, Cert.KernelIdeal.Gen.facts, Cert.ReferenceIdeal.Gen.facts, preFacts, preFactsWhole,
  fun m g _ => θ_run_mono (Cert.Kernel.Talk.run_main m g) fun _ h => ⟨fun c => ⟨(h.1 c).arg0, (h.1 c).arg1, (h.1 c).arg2⟩, h.2⟩,
  frameIdeal, fun m g _ => frameIdeal m g trivial, frameRef, fun m g _ => frameRef m g trivial, trivial,
  letI := preFacts; algebraic⟩

end Cert.Proof

end
